-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨3, ![4, 1024, 256]⟩ ⟨3, ![4, 1024, 8192]⟩ 2 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 1024, 256]⟩ ⟨3, ![4, 1024, 8192]⟩ 2 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v25) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S4x1024x256 : Shape := ⟨3, ![4, 1024, 256]⟩
abbrev S4x128 : Shape := ⟨2, ![4, 128]⟩
abbrev S128x256 : Shape := ⟨2, ![128, 256]⟩
abbrev S_ : Shape := ⟨0, ![]⟩

class Facts : Prop where
  bcast_S_S4x1024x256 : S_.BroadcastsInDim S4x1024x256 (![] : Fin 0 → Fin S4x1024x256.rank)

variable [Facts]

def fn {F : FTy → Type} [FloatOps F] (main_arg0 : FVec F S4x1024x256 .bf16) (main_arg1 : FVec F S4x128 .bf16) (main_arg2 : FVec F S128x256 .bf16) (main_arg3 : FVec F S128x256 .bf16) : IVec S4x1024x256 1 :=
  let main_v0 : FVec F S4x1024x256 .bf16 := Host.absf main_arg0
  let main_cst : FVec F S_ .bf16 := constant S_ .bf16 0x7F80#16
  let main_v1 : FVec F S4x1024x256 .bf16 := broadcastInDim S4x1024x256 ![] bcast_S_S4x1024x256 main_cst
  let main_v2 : IVec S4x1024x256 1 := cmpf .olt main_v0 main_v1
  main_v2
-- ==== Pre_finite_x_ReferenceIdeal.lean ====
abbrev S4x1024x8192 : Shape := ⟨3, ![4, 1024, 8192]⟩
abbrev S4x128 : Shape := ⟨2, ![4, 128]⟩
abbrev S128x8192 : Shape := ⟨2, ![128, 8192]⟩
abbrev S_ : Shape := ⟨0, ![]⟩

class Facts : Prop where
  bcast_S_S4x1024x8192 : S_.BroadcastsInDim S4x1024x8192 (![] : Fin 0 → Fin S4x1024x8192.rank)

variable [Facts]

def fn {F : FTy → Type} [FloatOps F] (main_arg0 : FVec F S4x1024x8192 .bf16) (main_arg1 : FVec F S4x128 .bf16) (main_arg2 : FVec F S128x8192 .bf16) (main_arg3 : FVec F S128x8192 .bf16) : IVec S4x1024x8192 1 :=
  let main_v0 : FVec F S4x1024x8192 .bf16 := Host.absf main_arg0
  let main_cst : FVec F S_ .bf16 := constant S_ .bf16 0x7F80#16
  let main_v1 : FVec F S4x1024x8192 .bf16 := broadcastInDim S4x1024x8192 ![] bcast_S_S4x1024x8192 main_cst
  let main_v2 : IVec S4x1024x8192 1 := cmpf .olt main_v0 main_v1
  main_v2
-- ==== Kernel.lean ====
abbrev S4x1024x256 : Shape := ⟨3, ![4, 1024, 256]⟩
abbrev S4x128 : Shape := ⟨2, ![4, 128]⟩
abbrev S128x256 : Shape := ⟨2, ![128, 256]⟩
abbrev S2x2x4x512 : Shape := ⟨4, ![2, 2, 4, 512]⟩
abbrev S2x3x3x2x4x512 : Shape := ⟨6, ![2, 3, 3, 2, 4, 512]⟩
abbrev S2x3x3 : Shape := ⟨3, ![2, 3, 3]⟩
abbrev S_ : Shape := ⟨0, ![]⟩
abbrev S4x512x256 : Shape := ⟨3, ![4, 512, 256]⟩
abbrev S4x512 : Shape := ⟨2, ![4, 512]⟩
abbrev S1x1x4x512 : Shape := ⟨4, ![1, 1, 4, 512]⟩
abbrev S1x1x1 : Shape := ⟨3, ![1, 1, 1]⟩
abbrev S1x1x1x2x4x512 : Shape := ⟨6, ![1, 1, 1, 2, 4, 512]⟩
abbrev S2x4x512 : Shape := ⟨3, ![2, 4, 512]⟩
abbrev S1x2x4x512 : Shape := ⟨4, ![1, 2, 4, 512]⟩
abbrev S4x256 : Shape := ⟨2, ![4, 256]⟩
abbrev S4x512x1 : Shape := ⟨3, ![4, 512, 1]⟩
abbrev S4x1x256 : Shape := ⟨3, ![4, 1, 256]⟩

abbrev nBuf : Space → Nat
  | .hbm => 5
  | .vmem => 7
  | .smem => 0
  | _ => 0

abbrev bufTy : (tb : Table) → Fin (tcTables nBuf tb) → BufTy
  | .hbm, ⟨0, _⟩ => ⟨S4x1024x256, .bf16⟩
  | .hbm, ⟨1, _⟩ => ⟨S4x128, .bf16⟩
  | .hbm, ⟨2, _⟩ => ⟨S128x256, .bf16⟩
  | .hbm, ⟨3, _⟩ => ⟨S128x256, .bf16⟩
  | .hbm, ⟨4, _⟩ => ⟨S4x1024x256, .f32⟩
  | .local _ .vmem, ⟨0, _⟩ => ⟨S4x1024x256, .bf16⟩
  | .local _ .vmem, ⟨1, _⟩ => ⟨S4x128, .bf16⟩
  | .local _ .vmem, ⟨2, _⟩ => ⟨S128x256, .bf16⟩
  | .local _ .vmem, ⟨3, _⟩ => ⟨S128x256, .bf16⟩
  | .local _ .vmem, ⟨4, _⟩ => ⟨S4x1024x256, .f32⟩
  | .local _ .vmem, ⟨5, _⟩ => ⟨S2x2x4x512, .bf16⟩
  | .local _ .vmem, ⟨6, _⟩ => ⟨S2x3x3x2x4x512, .bf16⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v16 : BitVec 32 := Scalar.xori v2 c8_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v19 : BitVec 32 := Scalar.xori v2 c12_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v22 : BitVec 32 := Scalar.xori v2 c16_i32
  let c1_i32_19 : BitVec 32 := 1#32
  let v23 : BitVec 32 := Scalar.muli v22 c1_i32_19
  let v24 : BitVec 32 := Scalar.addi c0_i32_20 v23
  v24.toNat
def k0_dev8 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_31 : BitVec 32 := 1#32
  let v40 : BitVec 32 := Scalar.xori v2 c1_i32_31
  let c1_i32_42 : BitVec 32 := 1#32
  let v41 : BitVec 32 := Scalar.muli v40 c1_i32_42
  let v42 : BitVec 32 := Scalar.addi c0_i32_43 v41
  v42.toNat
def k0_dev9 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_50 : BitVec 32 := 2#32
  let v51 : BitVec 32 := Scalar.xori v2 c2_i32_50
  let c1_i32_61 : BitVec 32 := 1#32
  let v52 : BitVec 32 := Scalar.muli v51 c1_i32_61
  let v53 : BitVec 32 := Scalar.addi c0_i32_62 v52
  v53.toNat
def k0_dev10 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_69 : BitVec 32 := 3#32
  let v62 : BitVec 32 := Scalar.xori v2 c3_i32_69
  let c1_i32_80 : BitVec 32 := 1#32
  let v63 : BitVec 32 := Scalar.muli v62 c1_i32_80
  let v64 : BitVec 32 := Scalar.addi c0_i32_81 v63
  v64.toNat
def k0_dev11 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_100 : BitVec 32 := 1#32
  let v88 : BitVec 32 := Scalar.xori v2 c1_i32_100
  let c1_i32_111 : BitVec 32 := 1#32
  let v89 : BitVec 32 := Scalar.muli v88 c1_i32_111
  let v90 : BitVec 32 := Scalar.addi c0_i32_112 v89
  v90.toNat
def k0_dev12 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_119 : BitVec 32 := 2#32
  let v99 : BitVec 32 := Scalar.xori v2 c2_i32_119
  let c1_i32_130 : BitVec 32 := 1#32
  let v100 : BitVec 32 := Scalar.muli v99 c1_i32_130
  let v101 : BitVec 32 := Scalar.addi c0_i32_131 v100
  v101.toNat
def k0_dev13 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_138 : BitVec 32 := 3#32
  let v110 : BitVec 32 := Scalar.xori v2 c3_i32_138
  let c1_i32_149 : BitVec 32 := 1#32
  let v111 : BitVec 32 := Scalar.muli v110 c1_i32_149
  let v112 : BitVec 32 := Scalar.addi c0_i32_150 v111
  v112.toNat
def k0_dev14 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_297 : BitVec 32 := 4#32
  let v187 : BitVec 32 := Scalar.xori v2 c4_i32_297
  let c1_i32_308 : BitVec 32 := 1#32
  let v188 : BitVec 32 := Scalar.muli v187 c1_i32_308
  let v189 : BitVec 32 := Scalar.addi c0_i32_309 v188
  v189.toNat
def k0_dev15 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_316 : BitVec 32 := 8#32
  let v198 : BitVec 32 := Scalar.xori v2 c8_i32_316
  let c1_i32_327 : BitVec 32 := 1#32
  let v199 : BitVec 32 := Scalar.muli v198 c1_i32_327
  let v200 : BitVec 32 := Scalar.addi c0_i32_328 v199
  v200.toNat
def k0_dev16 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_335 : BitVec 32 := 12#32
  let v209 : BitVec 32 := Scalar.xori v2 c12_i32_335
  let c1_i32_346 : BitVec 32 := 1#32
  let v210 : BitVec 32 := Scalar.muli v209 c1_i32_346
  let v211 : BitVec 32 := Scalar.addi c0_i32_347 v210
  v211.toNat
def k0_dev17 (d0 : Dev nD) : Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_485 : BitVec 32 := 4#32
  let v276 : BitVec 32 := Scalar.xori v2 c4_i32_485
  let c1_i32_496 : BitVec 32 := 1#32
  let v277 : BitVec 32 := Scalar.muli v276 c1_i32_496
  let v278 : BitVec 32 := Scalar.addi c0_i32_497 v277
  v278.toNat
def k0_dev18 (d0 : Dev nD) : Nat :=
  let c0_i32_516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_504 : BitVec 32 := 8#32
  let v287 : BitVec 32 := Scalar.xori v2 c8_i32_504
  let c1_i32_515 : BitVec 32 := 1#32
  let v288 : BitVec 32 := Scalar.muli v287 c1_i32_515
  let v289 : BitVec 32 := Scalar.addi c0_i32_516 v288
  v289.toNat
def k0_dev19 (d0 : Dev nD) : Nat :=
  let c0_i32_535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_523 : BitVec 32 := 12#32
  let v298 : BitVec 32 := Scalar.xori v2 c12_i32_523
  let c1_i32_534 : BitVec 32 := 1#32
  let v299 : BitVec 32 := Scalar.muli v298 c1_i32_534
  let v300 : BitVec 32 := Scalar.addi c0_i32_535 v299
  v300.toNat
def k0_dev20 (d0 : Dev nD) : Nat :=
  let c0_i32_685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_673 : BitVec 32 := 16#32
  let v365 : BitVec 32 := Scalar.xori v2 c16_i32_673
  let c1_i32_684 : BitVec 32 := 1#32
  let v366 : BitVec 32 := Scalar.muli v365 c1_i32_684
  let v367 : BitVec 32 := Scalar.addi c0_i32_685 v366
  v367.toNat
def k0_dev21 (d0 : Dev nD) : Nat :=
  let c0_i32_835 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_823 : BitVec 32 := 16#32
  let v432 : BitVec 32 := Scalar.xori v2 c16_i32_823
  let c1_i32_834 : BitVec 32 := 1#32
  let v433 : BitVec 32 := Scalar.muli v432 c1_i32_834
  let v434 : BitVec 32 := Scalar.addi c0_i32_835 v433
  v434.toNat
abbrev stage0_0 : Fin 1 → Memref sig .tc .vmem S4x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4x1024x8192 : Shape := ⟨3, ![4, 1024, 8192]⟩
abbrev S4x128 : Shape := ⟨2, ![4, 128]⟩
abbrev S128x8192 : Shape := ⟨2, ![128, 8192]⟩
abbrev S_ : Shape := ⟨0, ![]⟩
abbrev S4x1024 : Shape := ⟨2, ![4, 1024]⟩
abbrev S4x1024x1 : Shape := ⟨3, ![4, 1024, 1]⟩
abbrev S4x8192 : Shape := ⟨2, ![4, 8192]⟩
abbrev S4x1x8192 : Shape := ⟨3, ![4, 1, 8192]⟩

abbrev nBuf : Space → Nat
  | .hbm => 57
  | .vmem => 0
  | .smem => 0
  | _ => 0

abbrev bufTy : (tb : Table) → Fin (tcTables nBuf tb) → BufTy
  | .hbm, ⟨0, _⟩ => ⟨S4x1024x8192, .bf16⟩
  | .hbm, ⟨1, _⟩ => ⟨S4x128, .bf16⟩
  | .hbm, ⟨2, _⟩ => ⟨S128x8192, .bf16⟩
  | .hbm, ⟨3, _⟩ => ⟨S128x8192, .bf16⟩
  | .hbm, ⟨4, _⟩ => ⟨S4x1024x8192, .f32⟩
  | .hbm, ⟨5, _⟩ => ⟨S4x128, .f32⟩
  | .hbm, ⟨6, _⟩ => ⟨S128x8192, .f32⟩
  | .hbm, ⟨7, _⟩ => ⟨S128x8192, .f32⟩
  | .hbm, ⟨8, _⟩ => ⟨S_, .f32⟩
  | .hbm, ⟨9, _⟩ => ⟨S4x1024, .f32⟩
  | .hbm, ⟨10, _⟩ => ⟨S4x1024x1, .f32⟩
  | .hbm, ⟨11, _⟩ => ⟨S_, .f32⟩
  | .hbm, ⟨12, _⟩ => ⟨S4x1024x1, .f32⟩
  | .hbm, ⟨13, _⟩ => ⟨S4x1024x1, .f32⟩
  | .hbm, ⟨14, _⟩ => ⟨S_, .i32⟩
  | .hbm, ⟨15, _⟩ => ⟨S_, .f32⟩
  | .hbm, ⟨16, _⟩ => ⟨S4x1024, .f32⟩
  | .hbm, ⟨17, _⟩ => ⟨S4x1024x1, .f32⟩
  | .hbm, ⟨18, _⟩ => ⟨S_, .f32⟩
  | .hbm, ⟨19, _⟩ => ⟨S4x1024x1, .f32⟩
  | .hbm, ⟨20, _⟩ => ⟨S4x1024x1, .f32⟩
  | .hbm, ⟨21, _⟩ => ⟨S4x1024x8192, .f32⟩
  | .hbm, ⟨22, _⟩ => ⟨S4x1024x8192, .f32⟩
  | .hbm, ⟨23, _⟩ => ⟨S4x1024x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x1024, .f32⟩
  | .hbm, ⟨29, _⟩ => ⟨S4x1024x1, .f32⟩
  | .hbm, ⟨30, _⟩ => ⟨S4x1024x1, .f32⟩
  | .hbm, ⟨31, _⟩ => ⟨S4x1024x1, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S4x1024x1, .f32⟩
  | .hbm, ⟨37, _⟩ => ⟨S4x1024x1, .f32⟩
  | .hbm, ⟨38, _⟩ => ⟨S4x1024x8192, .f32⟩
  | .hbm, ⟨39, _⟩ => ⟨S4x1024x8192, .f32⟩
  | .hbm, ⟨40, _⟩ => ⟨S_, .f32⟩
  | .hbm, ⟨41, _⟩ => ⟨S4x1024x1, .f32⟩
  | .hbm, ⟨42, _⟩ => ⟨S4x1024x1, .f32⟩
  | .hbm, ⟨43, _⟩ => ⟨S4x1024x1, .f32⟩
  | .hbm, ⟨44, _⟩ => ⟨S4x1024x8192, .f32⟩
  | .hbm, ⟨45, _⟩ => ⟨S4x1024x8192, .f32⟩
  | .hbm, ⟨46, _⟩ => ⟨S4x8192, .f32⟩
  | .hbm, ⟨47, _⟩ => ⟨S4x8192, .f32⟩
  | .hbm, ⟨48, _⟩ => ⟨S4x1x8192, .f32⟩
  | .hbm, ⟨49, _⟩ => ⟨S_, .f32⟩
  | .hbm, ⟨50, _⟩ => ⟨S4x1x8192, .f32⟩
  | .hbm, ⟨51, _⟩ => ⟨S4x1x8192, .f32⟩
  | .hbm, ⟨52, _⟩ => ⟨S4x1024x8192, .f32⟩
  | .hbm, ⟨53, _⟩ => ⟨S4x1024x8192, .f32⟩
  | .hbm, ⟨54, _⟩ => ⟨S4x1x8192, .f32⟩
  | .hbm, ⟨55, _⟩ => ⟨S4x1024x8192, .f32⟩
  | .hbm, ⟨56, _⟩ => ⟨S4x1024x8192, .f32⟩
  | _, _ => ⟨S4x1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_cst_3 : Ref sig .tc := ⟨.hbm, 32, rfl⟩
abbrev main_call0_v13 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_2 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩

abbrev nD : Nat := 1
abbrev τ : Topo := Topo.v7x

variable {F : FTy → Type} [FloatOps F]
-- ==== Proof.Protocol.lean ====
/-
The exchange of the fused AdaLN kernel, written down.

Thirty-two devices each hold 256 of the 8192 channels of `x`. Each computes, per chunk of 512 rows, two
rows of statistics (the sum and the sum of squares of its channels), and the devices add these up in three
stages: in stage 0 a device exchanges with the devices whose number differs from its own in the low two
bits, in stage 1 in the next two bits, in stage 2 in the top bit. `peer c j` is the `j`-th of the seven
partners of device `c`; it is an involution in `c`.

Semaphores.
* The barrier cell of `c`: each of the seven partners signals it once, by one unit, and `c` waits for seven.
  The signal of `peer c d` hands `c` the two landing slots (one per chunk) of `peer c d` that `c` will write.
* The send cell `(q, j)` of `c`: raised by `c`'s own copy of its statistics of chunk `q` to `peer c j`; `c`
  waits for it once. It hands back the share of the statistics that the copy was reading.
* The receive cell `(q, j)` of `c`: raised by the copy of `peer c j`; `c` waits for it once. It hands over
  landing slot `(q, j)` of `c`, holding the statistics of chunk `q` that `peer c j` had at the stage of `j`.
* The remaining eight semaphores of the two arrays are never used.
-/
module

public import proofs.«01_k».proof.KernelIdeal
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds.Family
public import Idealize.ShloMosaic.Lib.ValueLayout
public import Idealize.ShloMosaic.Lib.Tactic

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The partners -/

/-- By how much the number of the `j`-th partner differs, bit by bit. -/
def off : Fin 7 → ℕ := ![1, 2, 3, 4, 8, 12, 16]

set_option backward.proofsInPublic true in
/-- The `j`-th partner of device `c`. -/
def peer (c : Dev nD) (j : Fin 7) : Dev nD := ⟨(c.val ^^^ off j) % 32, Nat.mod_lt _ (by decide)⟩

theorem peer_peer (c : Dev nD) (j : Fin 7) : peer (peer c j) j = c := by revert c j; decide +kernel

/-- A device and its `j`-th partner change places. -/
def swap (j : Fin 7) : Dev nD ≃ Dev nD := ⟨fun c => peer c j, fun c => peer c j, fun c => peer_peer c j, fun c => peer_peer c j⟩

/-- The stage in which the `j`-th partner is exchanged with. -/
def stage (j : Fin 7) : Fin 3 := ![0, 0, 0, 1, 1, 1, 2] j

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 0 := by revert c; decide +kernel
theorem dev9_eq (c : Dev nD) : (⟨k0_dev9 c, k0_dev9_lt c⟩ : Dev nD) = peer c 1 := by revert c; decide +kernel
theorem dev10_eq (c : Dev nD) : (⟨k0_dev10 c, k0_dev10_lt c⟩ : Dev nD) = peer c 2 := by revert c; decide +kernel
theorem dev11_eq (c : Dev nD) : (⟨k0_dev11 c, k0_dev11_lt c⟩ : Dev nD) = peer c 0 := by revert c; decide +kernel
theorem dev12_eq (c : Dev nD) : (⟨k0_dev12 c, k0_dev12_lt c⟩ : Dev nD) = peer c 1 := by revert c; decide +kernel
theorem dev13_eq (c : Dev nD) : (⟨k0_dev13 c, k0_dev13_lt c⟩ : Dev nD) = peer c 2 := by revert c; decide +kernel
theorem dev14_eq (c : Dev nD) : (⟨k0_dev14 c, k0_dev14_lt c⟩ : Dev nD) = peer c 3 := by revert c; decide +kernel
theorem dev15_eq (c : Dev nD) : (⟨k0_dev15 c, k0_dev15_lt c⟩ : Dev nD) = peer c 4 := by revert c; decide +kernel
theorem dev16_eq (c : Dev nD) : (⟨k0_dev16 c, k0_dev16_lt c⟩ : Dev nD) = peer c 5 := by revert c; decide +kernel
theorem dev17_eq (c : Dev nD) : (⟨k0_dev17 c, k0_dev17_lt c⟩ : Dev nD) = peer c 3 := by revert c; decide +kernel
theorem dev18_eq (c : Dev nD) : (⟨k0_dev18 c, k0_dev18_lt c⟩ : Dev nD) = peer c 4 := by revert c; decide +kernel
theorem dev19_eq (c : Dev nD) : (⟨k0_dev19 c, k0_dev19_lt c⟩ : Dev nD) = peer c 5 := by revert c; decide +kernel
theorem dev20_eq (c : Dev nD) : (⟨k0_dev20 c, k0_dev20_lt c⟩ : Dev nD) = peer c 6 := by revert c; decide +kernel
theorem dev21_eq (c : Dev nD) : (⟨k0_dev21 c, k0_dev21_lt c⟩ : Dev nD) = peer c 6 := by revert c; decide +kernel

/-! ## The resource algebra, memrefs and cells -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The staged blocks, the statistics and the landing slots. -/
abbrev xM : Memref sig .tc .vmem S4x1024x256 .bf16 := Memref.whole cc0_stg0_0
abbrev tM : Memref sig .tc .vmem S4x128 .bf16 := Memref.whole cc0_stg1_0
abbrev uM : Memref sig .tc .vmem S128x256 .bf16 := Memref.whole cc0_stg2_0
abbrev wM : Memref sig .tc .vmem S128x256 .bf16 := Memref.whole cc0_stg3_0
abbrev oM : Memref sig .tc .vmem S4x1024x256 .f32 := Memref.whole cc0_stg4_0
abbrev aM : Memref sig .tc .vmem S2x2x4x512 .bf16 := Memref.whole cc0_scratch0
abbrev rM : Memref sig .tc .vmem S2x3x3x2x4x512 .bf16 := Memref.whole cc0_scratch1

theorem acc_inb (q : Fin 2) : ∀ a, (![q.val, 0, 0, 0] : Fin 4 → ℕ) a + S1x2x4x512.size a ≤ S2x2x4x512.size a := by revert q; decide
theorem slot_inb (q : Fin 2) (j : Fin 7) :
    ∀ a, (![q.val, j.val / 3, j.val % 3, 0, 0, 0] : Fin 6 → ℕ) a + S1x1x1x2x4x512.size a ≤ S2x3x3x2x4x512.size a := by revert q j; decide
theorem sem_inb (q : Fin 2) (j : Fin 7) :
    ∀ a, (![q.val, j.val / 3, j.val % 3] : Fin 3 → ℕ) a + S1x1x1.size a ≤ S2x3x3.size a := by revert q j; decide

/-- The rectangle of chunk `q` in the statistics, and of slot `(q, j)` in the landing buffer. -/
abbrev accR (q : Fin 2) : Rect S2x2x4x512 := Rect.unit (s := S2x2x4x512) ![q.val, 0, 0, 0] S1x2x4x512.size (acc_inb q)
abbrev slotR (q : Fin 2) (j : Fin 7) : Rect S2x3x3x2x4x512 :=
  Rect.unit (s := S2x3x3x2x4x512) ![q.val, j.val / 3, j.val % 3, 0, 0, 0] S1x1x1x2x4x512.size (slot_inb q j)

/-- The statistics of chunk `q`; landing slot `(q, j)`. -/
abbrev accM (q : Fin 2) : Memref sig .tc .vmem S2x4x512 .bf16 :=
  (aM.slice (accR q) (fun _ => rfl)).squeeze S2x4x512 squeezes_S1x2x4x512_S2x4x512
abbrev slotM (q : Fin 2) (j : Fin 7) : Memref sig .tc .vmem S2x4x512 .bf16 :=
  (rM.slice (slotR q j) (fun _ => rfl)).squeeze S2x4x512 squeezes_S1x1x1x2x4x512_S2x4x512

/-- The runtime's barrier semaphore, and the send and receive semaphores `(q, j)`. -/
abbrev barS : Sem sig := (SemArray.scalar (sig.barrier 0 rfl) : Sems sig S_).sem
abbrev sendS (q : Fin 2) (j : Fin 7) : DmaSem sig :=
  ((cc0_scratch2.slice (Rect.unit (s := S2x3x3) ![q.val, j.val / 3, j.val % 3] S1x1x1.size (sem_inb q j))).squeeze S_ squeezes_S1x1x1_S_).sem
abbrev recvS (q : Fin 2) (j : Fin 7) : DmaSem sig :=
  ((cc0_scratch3.slice (Rect.unit (s := S2x3x3) ![q.val, j.val / 3, j.val % 3] S1x1x1.size (sem_inb q j))).squeeze S_ squeezes_S1x1x1_S_).sem

theorem sendS_val (q : Fin 2) (j : Fin 7) : (sendS q j).val = 5 + 9 * q.val + j.val := by revert q j; decide
theorem recvS_val (q : Fin 2) (j : Fin 7) : (recvS q j).val = 23 + 9 * q.val + j.val := by revert q j; decide

abbrev barCell (c : Dev nD) : GSem nD τ sig := ((c : Thread nD τ), .reg barS)
abbrev sendCell (c : Dev nD) (q : Fin 2) (j : Fin 7) : GSem nD τ sig := ((c : Thread nD τ), .dma (sendS q j))
abbrev recvCell (c : Dev nD) (q : Fin 2) (j : Fin 7) : GSem nD τ sig := ((c : Thread nD τ), .dma (recvS q j))

/-- The credit of one copy. -/
abbrev N : ℕ := (slotM 0 0).view.dmaCredit
theorem N_pos : 0 < N := View.dmaCredit_pos _ (by decide)
theorem credit_acc (q : Fin 2) : (accM q).view.dmaCredit = N := by revert q; decide
theorem credit_slot (q : Fin 2) (j : Fin 7) : (slotM q j).view.dmaCredit = N := by revert q j; decide

end Cert.KernelProof
-- ==== Proof.Contents.lean ====
/-
What the buffers of the exchange hold.

`T0 q c` is the pair of statistics rows that device `c` computes for chunk `q`; `T1`, `T2`, `T3` are what it
holds after the stages 0, 1, 2, each stage adding the partners' rows to its own, in the order in which the
kernel adds them. The lemmas say what the kernel's loads, stores and copies do to buffers holding such rows.
-/
module

public import proofs.«01_k».proof.Proof.Protocol

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4 reshapeEquiv_ix3_1abc)

variable {F : FTy → Type} [FloatOps F]

local notation "𝕄" => MT nD τ sig Unit (Elt F) ℕ UU ℕ

variable (m : (ℓ : Loc nD τ sig) → Buf (Elt F) ℓ)

/-! ## The staged blocks of device `c` -/

def xstg (c : Dev nD) : (cc0_stg0_0 : Ref sig .tc).ty.Contents (Elt F) :=
  (win0_0.blk (0 : Fin 1)).view.read (Elt F) (m ((c : Thread nD τ).loc main_arg0))
def tstg (c : Dev nD) : (cc0_stg1_0 : Ref sig .tc).ty.Contents (Elt F) :=
  (win0_1.blk (0 : Fin 1)).view.read (Elt F) (m ((c : Thread nD τ).loc main_arg1))
def ustg (c : Dev nD) : (cc0_stg2_0 : Ref sig .tc).ty.Contents (Elt F) :=
  (win0_2.blk (0 : Fin 1)).view.read (Elt F) (m ((c : Thread nD τ).loc main_arg2))
def wstg (c : Dev nD) : (cc0_stg3_0 : Ref sig .tc).ty.Contents (Elt F) :=
  (win0_3.blk (0 : Fin 1)).view.read (Elt F) (m ((c : Thread nD τ).loc main_arg3))

theorem x_inb (q : Fin 2) : ∀ a, (![0, 512 * q.val, 0] : Fin 3 → ℕ) a + S4x512x256.size a ≤ S4x1024x256.size a := by revert q; decide
/-- The rows of chunk `q`. -/
abbrev xR (q : Fin 2) : Rect S4x1024x256 := Rect.unit (s := S4x1024x256) ![0, 512 * q.val, 0] S4x512x256.size (x_inb q)

/-- Chunk `q` of the device's block of `x`. -/
def xch (q : Fin 2) (c : Dev nD) : Vec F S4x512x256 .bf16 := (xM : Memref sig .tc .vmem S4x1024x256 .bf16).view.readAt (Elt F) (xR q).toLoadRect (xstg m c)

/-! ## The statistics -/

/-- Two statistics rows for each of 4 × 512 positions. -/
abbrev Stats (F : FTy → Type) : Type := S2x4x512.Idx → Elt F .bf16

/-- The two rows put together. -/
def rowsOf (a b : S1x1x4x512.Idx → Elt F .bf16) : Stats F :=
  fun i => if (i 0).val = 0 then a (ix4 (0 : Fin 1) (0 : Fin 1) (i 1) (i 2)) else b (ix4 (0 : Fin 1) (0 : Fin 1) (i 1) (i 2))

def T0 (q : Fin 2) (c : Dev nD) : Stats F := rowsOf (k0_pay3 (xch m q c)) (k0_pay4 (xch m q c))
/-- One stage with three partners; one with a single partner. -/
def comb3 (a b c d : Stats F) : Stats F := addf (F := F) (s := S2x4x512) (φ := .bf16) (addf (F := F) (s := S2x4x512) (φ := .bf16) (addf (F := F) (s := S2x4x512) (φ := .bf16) a b) c) d
def comb1 (a b : Stats F) : Stats F := addf (F := F) (s := S2x4x512) (φ := .bf16) a b
def T1 (q : Fin 2) (c : Dev nD) : Stats F := comb3 (T0 m q c) (T0 m q (peer c 0)) (T0 m q (peer c 1)) (T0 m q (peer c 2))
def T2 (q : Fin 2) (c : Dev nD) : Stats F := comb3 (T1 m q c) (T1 m q (peer c 3)) (T1 m q (peer c 4)) (T1 m q (peer c 5))
def T3 (q : Fin 2) (c : Dev nD) : Stats F := comb1 (T2 m q c) (T2 m q (peer c 6))
/-- What is exchanged with the `j`-th partner. -/
def TJ (j : Fin 7) : Fin 2 → Dev nD → Stats F := ![T0 m, T0 m, T0 m, T1 m, T1 m, T1 m, T2 m] j

/-- The statistics with the unit axes that the kernel's loads carry. -/
def up (t : Stats F) : S1x2x4x512.Idx → Elt F .bf16 := shapeCast S1x2x4x512 t shapeCasts_S2x4x512_S1x2x4x512
def upS (t : Stats F) : S1x1x1x2x4x512.Idx → Elt F .bf16 := shapeCast S1x1x1x2x4x512 t squeezes_S1x1x1x2x4x512_S2x4x512.numel_eq.symm
/-- Row `k` with the unit axes that the kernel's loads carry. -/
def rowOf (k : Fin 2) (t : Stats F) : S1x1x4x512.Idx → Elt F .bf16 := fun i => t (ix3 k (i 2) (i 3))

theorem pay10_up (a b c d : Stats F) : k0_pay10 (F := F) (up a) (upS b) (upS c) (upS d) = up (comb3 a b c d) := by
  unfold k0_pay10 up upS comb3
  simp only [shapeCast_shapeCast]
theorem pay12_up (a b c d : Stats F) : k0_pay12 (F := F) (k0_pay11 (up a)) (upS b) (upS c) (upS d) = up (comb3 a b c d) := pay10_up a b c d
theorem pay14_up (a b c d : Stats F) : k0_pay14 (F := F) (k0_pay13 (up a) (upS b)) (upS c) (upS d) = up (comb3 a b c d) := pay10_up a b c d
theorem pay16_up (a b c d : Stats F) : k0_pay16 (F := F) (k0_pay15 (up a) (upS b) (upS c) (upS d)) = up (comb3 a b c d) := pay10_up a b c d
theorem pay17_up (a b : Stats F) : k0_pay17 (F := F) (up a) (upS b) = up (comb1 a b) := by
  unfold k0_pay17 up upS comb1
  simp only [shapeCast_shapeCast]
theorem pay20_up (a b : Stats F) : k0_pay20 (F := F) (up a) (upS b) = up (comb1 a b) := pay17_up a b

/-! ## The buffers holding them -/

/-- Contents of the statistics buffer whose chunk `q` is `t`; of the landing buffer whose slot `(q, j)` is `t`. -/
def accBuf (q : Fin 2) (t : Stats F) : (cc0_scratch0 : Ref sig .tc).ty.Contents (Elt F) :=
  (accM q).view.write (Elt F) (fun _ => default) t Finset.univ
def slotBuf (q : Fin 2) (j : Fin 7) (t : Stats F) : (cc0_scratch1 : Ref sig .tc).ty.Contents (Elt F) :=
  (slotM q j).view.write (Elt F) (fun _ => default) t Finset.univ

omit [FloatOps F] in
/-- A write on all of a view puts the same values under it, whatever was there. -/
theorem write_agree {κ : Kind} {sp : Space} {s : Shape} {e : EltTy} (v : View sig κ sp s e) (f g : v.ty.Contents (Elt F)) (w : s.Idx → Elt F e) :
    ∀ i ∈ v.set, v.write (Elt F) f w Finset.univ i = v.write (Elt F) g w Finset.univ i := by
  intro i hi
  obtain ⟨x, -, rfl⟩ := Finset.mem_map.mp hi
  rw [View.write_emb_of_mem _ _ (Finset.mem_univ _), View.write_emb_of_mem _ _ (Finset.mem_univ _)]

omit [FloatOps F] in
/-- Reading through a view what was written through a reshape of it. -/
theorem read_write_reshape {κ : Kind} {sp : Space} {s s' : Shape} {e : EltTy} (v : View sig κ sp s e) (h : s'.numel = s.numel) (h' : s.numel = s'.numel)
    (f : v.ty.Contents (Elt F)) (w : s'.Idx → Elt F e) :
    v.read (Elt F) ((v.reshape s' h).write (Elt F) f w Finset.univ) = shapeCast s w h' := by
  funext i
  have hi : v.emb i = (v.reshape s' h).emb (Shape.reshapeEquiv h' i) := by
    show v.emb i = v.emb (Shape.reshapeEquiv h (Shape.reshapeEquiv h' i))
    rw [Shape.reshapeEquiv_reshapeEquiv, Shape.reshapeEquiv_self]
  rw [View.read_apply, hi, View.write_emb_of_mem _ _ (Finset.mem_univ _), cast_cast, cast_eq]
  rfl

omit [FloatOps F] in
/-- Writing through a view is writing through a reshape of it, on the view's elements. -/
theorem write_reshape_agree {κ : Kind} {sp : Space} {s s' : Shape} {e : EltTy} (v : View sig κ sp s e) (h : s'.numel = s.numel) (h' : s.numel = s'.numel)
    (f g : v.ty.Contents (Elt F)) (w : s'.Idx → Elt F e) :
    ∀ i ∈ v.set, v.write (Elt F) f (shapeCast s w h') Finset.univ i = (v.reshape s' h).write (Elt F) g w Finset.univ i := by
  intro i hi
  obtain ⟨x, -, rfl⟩ := Finset.mem_map.mp hi
  have hx : v.emb x = (v.reshape s' h).emb (Shape.reshapeEquiv h' x) := by
    show v.emb x = v.emb (Shape.reshapeEquiv h (Shape.reshapeEquiv h' x))
    rw [Shape.reshapeEquiv_reshapeEquiv, Shape.reshapeEquiv_self]
  rw [View.write_emb_of_mem _ _ (Finset.mem_univ _), hx, View.write_emb_of_mem _ _ (Finset.mem_univ _)]
  rfl

theorem load_acc (q : Fin 2) (t : Stats F) : (aM : Memref sig .tc .vmem S2x2x4x512 .bf16).view.readAt (Elt F) (accR q).toLoadRect (accBuf q t) = up t := by
  rw [View.readAt_rect]
  exact read_write_reshape _ _ _ _ t
theorem load_slot (q : Fin 2) (j : Fin 7) (t : Stats F) :
    (rM : Memref sig .tc .vmem S2x3x3x2x4x512 .bf16).view.readAt (Elt F) (slotR q j).toLoadRect (slotBuf q j t) = upS t := by
  rw [View.readAt_rect]
  exact read_write_reshape _ _ _ _ t

/-- The store of chunk `q`. -/
theorem store_acc (q : Fin 2) (t : Stats F) (f : (cc0_scratch0 : Ref sig .tc).ty.Contents (Elt F)) :
    ∀ i ∈ (accM q).view.set, ((aM : Memref sig .tc .vmem S2x2x4x512 .bf16).access (accR q)).write (Elt F) f (up t) Finset.univ i = accBuf q t i := by
  intro i hi
  have hs : (accM q).view.set = ((aM : Memref sig .tc .vmem S2x2x4x512 .bf16).access (accR q)).set := View.set_reshape _ _
  rw [hs] at hi
  exact write_reshape_agree ((aM : Memref sig .tc .vmem S2x2x4x512 .bf16).access (accR q)) squeezes_S1x2x4x512_S2x4x512.numel_eq
    shapeCasts_S2x4x512_S1x2x4x512 f (fun _ => default) t i hi

/-- What a copy of chunk `q` leaves in slot `(q, j)`. -/
theorem copy_slot (q : Fin 2) (j : Fin 7) (t : Stats F) (f : (cc0_scratch1 : Ref sig .tc).ty.Contents (Elt F)) :
    ∀ i ∈ (slotM q j).view.set, (slotM q j).view.write (Elt F) f ((accM q).view.read (Elt F) (accBuf q t)) Finset.univ i = slotBuf q j t i := by
  intro i hi
  unfold accBuf slotBuf
  rw [View.read_write_univ]
  exact write_agree (slotM q j).view f _ t i hi

/-! ### The rows of a chunk -/

theorem row_inb (q k : Fin 2) : ∀ a, (![q.val, k.val, 0, 0] : Fin 4 → ℕ) a + S1x1x4x512.size a ≤ S2x2x4x512.size a := by revert q k; decide
/-- Row `k` of chunk `q`. -/
abbrev rowR (q k : Fin 2) : Rect S2x2x4x512 := Rect.unit (s := S2x2x4x512) ![q.val, k.val, 0, 0] S1x1x4x512.size (row_inb q k)

/-- The position `(b, t)` of a row, and the position `(k, b, t)` of a pair of rows. -/
def at2 (b : Fin 4) (t : Fin 512) : S1x1x4x512.Idx := ix4 (0 : Fin 1) (0 : Fin 1) b t
def at3 (k : Fin 2) (b : Fin 4) (t : Fin 512) : S2x4x512.Idx := ix3 k b t

theorem at2_surj (i : S1x1x4x512.Idx) : ∃ b t, i = at2 b t :=
  ⟨i 2, i 3, by funext a; fin_cases a <;> first | rfl | exact Subsingleton.elim (α := Fin 1) _ _⟩
theorem at3_surj (i : S2x4x512.Idx) : ∃ k b t, i = at3 k b t := ⟨i 0, i 1, i 2, by funext a; fin_cases a <;> rfl⟩

/-- The element of chunk `q` at `(k, b, t)` is the element of its row `k` at `(b, t)`. -/
theorem emb_row (q k : Fin 2) (b : Fin 4) (t : Fin 512) :
    (accM q).view.emb (at3 k b t) = ((aM : Memref sig .tc .vmem S2x2x4x512 .bf16).access (rowR q k)).emb (at2 b t) := by
  show (accR q).emb (Shape.reshapeEquiv _ (ix3 k b t)) = (rowR q k).emb (ix4 (0 : Fin 1) (0 : Fin 1) b t)
  rw [reshapeEquiv_ix3_1abc]
  funext a
  refine Fin.ext ?_
  fin_cases a <;> simp [Rect.emb_apply, Rect.off_unit, Rect.stride_unit, ix4]

theorem load_row (q k : Fin 2) (t : Stats F) : (aM : Memref sig .tc .vmem S2x2x4x512 .bf16).view.readAt (Elt F) (rowR q k).toLoadRect (accBuf q t) = rowOf k t := by
  rw [View.readAt_rect]
  funext i
  obtain ⟨b, u, hi⟩ := at2_surj i
  subst hi
  refine (View.read_apply _ _).trans ?_
  rw [← emb_row]
  unfold accBuf
  rw [View.write_emb_of_mem _ _ (Finset.mem_univ _), cast_cast, cast_eq]
  rfl

theorem row_subset (q k : Fin 2) : ((aM : Memref sig .tc .vmem S2x2x4x512 .bf16).access (rowR q k)).set ⊆ (accM q).view.set := by
  intro i hi
  obtain ⟨x, -, rfl⟩ := Finset.mem_map.mp hi
  obtain ⟨b, u, hx⟩ := at2_surj x
  subst hx
  have h := View.emb_mem_set (accM q).view (at3 k b u)
  rwa [emb_row] at h

/-- The two stores of a chunk's rows. -/
theorem store_rows (q : Fin 2) (a b : S1x1x4x512.Idx → Elt F .bf16) (f : (cc0_scratch0 : Ref sig .tc).ty.Contents (Elt F)) :
    ∀ i ∈ (accM q).view.set,
      ((aM : Memref sig .tc .vmem S2x2x4x512 .bf16).access (rowR q 1)).write (Elt F)
        (((aM : Memref sig .tc .vmem S2x2x4x512 .bf16).access (rowR q 0)).write (Elt F) f a Finset.univ) b Finset.univ i = accBuf q (rowsOf a b) i := by
  intro i hi
  obtain ⟨x, -, rfl⟩ := Finset.mem_map.mp hi
  unfold accBuf
  rw [View.write_emb_of_mem _ _ (Finset.mem_univ _)]
  obtain ⟨k, bb, tt, hx⟩ := at3_surj x
  subst hx
  rw [emb_row]
  have hk : ∀ k : Fin 2, k = 0 ∨ k = 1 := by decide
  obtain rfl | rfl := hk k
  · rw [View.write_of_not_mem]
    · refine (View.write_emb_of_mem (v := (aM : Memref sig .tc .vmem S2x2x4x512 .bf16).access (rowR q 0)) _ _ (Finset.mem_univ _)).trans ?_
      rfl
    · intro h
      obtain ⟨y, -, hy⟩ := Finset.mem_map.mp h
      obtain ⟨b', t', hx⟩ := at2_surj y
      subst hx
      have := congrArg (fun z : (cc0_scratch0 : Ref sig .tc).ty.Idx => (z 1).val) hy
      exact absurd this (by show (1 + 1 * 0 : ℕ) ≠ 0 + 1 * 0; decide)
  · refine (View.write_emb_of_mem (v := (aM : Memref sig .tc .vmem S2x2x4x512 .bf16).access (rowR q 1)) _ _ (Finset.mem_univ _)).trans ?_
    rfl

end Cert.KernelProof
-- ==== Proof.Schedule.lean ====
/-
The schedule of the exchange: per semaphore cell its duties, their amounts and what each hands over; what a
device still owes after each of its steps; and the levels by which no wait can be circular.
-/
module

public import proofs.«01_k».proof.Proof.Contents

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is handed over -/

/-- A share of chunk `q` of device `c`'s statistics, holding `t`; slot `(q, j)` of device `c`, holding `t`. -/
def accPts (c : Dev nD) (q : Fin 2) (sh : PosShare TreeShare) (t : Stats F) : sProp 𝕄 :=
  (accM q).view.loc (c : Thread nD τ) ↦[(accM q).view.set]{sh} accBuf q t
def slotPts (c : Dev nD) (q : Fin 2) (j : Fin 7) (t : Stats F) : sProp 𝕄 :=
  (slotM q j).view.loc (c : Thread nD τ) ↦[(slotM q j).view.set]{fullShare} slotBuf q j t
/-- The same, whatever they hold. -/
def accAny (c : Dev nD) (q : Fin 2) : sProp 𝕄 :=
  iprop(∃ f : (cc0_scratch0 : Ref sig .tc).ty.Contents (Elt F), (accM q).view.loc (c : Thread nD τ) ↦[(accM q).view.set]{fullShare} f)
def slotAny (c : Dev nD) (q : Fin 2) (j : Fin 7) : sProp 𝕄 :=
  iprop(∃ f : (cc0_scratch1 : Ref sig .tc).ty.Contents (Elt F), (slotM q j).view.loc (c : Thread nD τ) ↦[(slotM q j).view.set]{fullShare} f)

instance accPts_storable (c : Dev nD) (q : Fin 2) (sh) (t) : BI.Storable (upEmb : UEmb _ 𝕄) (accPts (F := F) c q sh t) := by unfold accPts; infer_instance
instance slotPts_storable (c : Dev nD) (q : Fin 2) (j : Fin 7) (t) : BI.Storable (upEmb : UEmb _ 𝕄) (slotPts (F := F) c q j t) := by unfold slotPts; infer_instance
instance slotAny_storable (c : Dev nD) (q : Fin 2) (j : Fin 7) : BI.Storable (upEmb : UEmb _ 𝕄) (slotAny (F := F) c q j) := by unfold slotAny; infer_instance

/-- The share of the statistics that the copy to the `j`-th partner reads. -/
def shL : PosShare TreeShare := fullShare.left
def shM : PosShare TreeShare := fullShare.right.left
def shR : PosShare TreeShare := fullShare.right.right
def sh (j : Fin 7) : PosShare TreeShare := ![shL, shM, shR, shL, shM, shR, fullShare] j

/-! ## The schedule -/

/-- Which of the exchange's semaphores a semaphore is: the barrier, a send, a receive, or none of them. -/
abbrev Role : Type := Unit ⊕ (Fin 2 × Fin 7) ⊕ (Fin 2 × Fin 7) ⊕ Unit

set_option backward.proofsInPublic true in
def roleNum (n : ℕ) : Role :=
  if h : 5 ≤ n ∧ n < 23 ∧ (n - 5) % 9 < 7 then .inr (.inl (⟨(n - 5) / 9, by omega⟩, ⟨(n - 5) % 9, h.2.2⟩))
  else if h : 23 ≤ n ∧ n < 41 ∧ (n - 23) % 9 < 7 then .inr (.inr (.inl (⟨(n - 23) / 9, by omega⟩, ⟨(n - 23) % 9, h.2.2⟩)))
  else .inr (.inr (.inr ()))

def roleOf : SemLoc sig → Role
  | .reg s => if s = barS then .inl () else .inr (.inr (.inr ()))
  | .dma s => roleNum s.val

theorem role_bar : roleOf (.reg barS) = .inl () := by simp [roleOf]
theorem role_send (q : Fin 2) (j : Fin 7) : roleOf (.dma (sendS q j)) = .inr (.inl (q, j)) := by
  show roleNum (sendS q j).val = _
  rw [sendS_val]; revert q j; decide
theorem role_recv (q : Fin 2) (j : Fin 7) : roleOf (.dma (recvS q j)) = .inr (.inr (.inl (q, j))) := by
  show roleNum (recvS q j).val = _
  rw [recvS_val]; revert q j; decide

variable (m : (ℓ : Loc nD τ sig) → Buf (Elt F) ℓ)

/-- What the signal of `c`'s `d`-th partner hands `c`: the two slots of that partner that `c` writes. -/
def barPay (c : Dev nD) (d : Fin 7) : sProp 𝕄 := iprop(slotAny (peer c d) 0 d ∗ slotAny (peer c d) 1 d)
/-- What `c`'s copy to its `j`-th partner gives back to `c`, and what that partner's copy gives to `c`. -/
def sendPay (c : Dev nD) (q : Fin 2) (j : Fin 7) : sProp 𝕄 := accPts c q (sh j) (TJ m j q c)
def recvPay (c : Dev nD) (q : Fin 2) (j : Fin 7) : sProp 𝕄 := slotPts c q j (TJ m j q (peer c j))

def dutiesOf : Role → Finset (Fin 7)
  | .inl _ => Finset.univ
  | .inr (.inl _) => {0}
  | .inr (.inr (.inl _)) => {0}
  | .inr (.inr (.inr _)) => ∅
def amountOf : Role → ℕ
  | .inl _ => 1
  | .inr _ => N
def payOf (c : Dev nD) (d : Fin 7) : Role → sProp 𝕄
  | .inl _ => barPay c d
  | .inr (.inl p) => sendPay m c p.1 p.2
  | .inr (.inr (.inl p)) => recvPay m c p.1 p.2
  | .inr (.inr (.inr _)) => iprop(emp)

def Rd : Rounds.Schedule (GSem nD τ sig) (Fin 7) 𝕄 where
  duties g r := if r = 0 ∧ g.1.2 = .tc then dutiesOf (roleOf g.2) else ∅
  unitless _ := False
  amount g _ _ := amountOf (roleOf g.2)
  payload g _ d := payOf m g.1.1 d (roleOf g.2)
  amount_pos g _ _ _ := by
    rcases roleOf g.2 with _ | _
    · exact Nat.one_pos
    · exact N_pos

instance Rd_payload_storable (g : GSem nD τ sig) (r : ℕ) (d : Fin 7) : BI.Storable (upEmb : UEmb _ 𝕄) ((Rd (F := F) m).payload g r d) := by
  show BI.Storable upEmb (payOf m g.1.1 d (roleOf g.2))
  rcases roleOf g.2 with _ | _ | _ | _
  · show BI.Storable upEmb (barPay g.1.1 d); unfold barPay; infer_instance
  · show BI.Storable upEmb (sendPay m g.1.1 _ _); unfold sendPay; infer_instance
  · show BI.Storable upEmb (recvPay m g.1.1 _ _); unfold recvPay; infer_instance
  · show BI.Storable upEmb iprop(emp); infer_instance

section Sched
variable (c : Dev nD) (q : Fin 2) (j d : Fin 7)

theorem duties_bar : (Rd (F := F) m).duties (barCell c) 0 = Finset.univ := by
  dsimp only [Rd]; rw [if_pos ⟨rfl, rfl⟩, role_bar]; rfl
theorem duties_send : (Rd (F := F) m).duties (sendCell c q j) 0 = {0} := by
  dsimp only [Rd]; rw [if_pos ⟨rfl, rfl⟩, role_send]; rfl
theorem duties_recv : (Rd (F := F) m).duties (recvCell c q j) 0 = {0} := by
  dsimp only [Rd]; rw [if_pos ⟨rfl, rfl⟩, role_recv]; rfl
theorem duties_later (g : GSem nD τ sig) : ∀ r, 1 ≤ r → (Rd (F := F) m).duties g r = ∅ :=
  fun r hr => by dsimp only [Rd]; rw [if_neg fun h => by omega]

theorem amount_bar : (Rd (F := F) m).amount (barCell c) 0 d = 1 := by dsimp only [Rd]; rw [role_bar]; rfl
theorem amount_send : (Rd (F := F) m).amount (sendCell c q j) 0 d = N := by dsimp only [Rd]; rw [role_send]; rfl
theorem amount_recv : (Rd (F := F) m).amount (recvCell c q j) 0 d = N := by dsimp only [Rd]; rw [role_recv]; rfl

theorem expect_bar : (Rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c q j) 0 = N := by
  unfold Schedule.expect Schedule.amountOf; rw [duties_send, Finset.sum_singleton, amount_send]
theorem expect_recv : (Rd (F := F) m).expect (recvCell c q j) 0 = N := by
  unfold Schedule.expect Schedule.amountOf; rw [duties_recv, Finset.sum_singleton, amount_recv]

theorem payload_bar : (Rd (F := F) m).payload (barCell c) 0 d = barPay c d := by dsimp only [Rd]; rw [role_bar]; rfl
theorem payload_send : (Rd (F := F) m).payload (sendCell c q j) 0 d = sendPay m c q j := by dsimp only [Rd]; rw [role_send]; rfl
theorem payload_recv : (Rd (F := F) m).payload (recvCell c q j) 0 d = recvPay m c q j := by dsimp only [Rd]; rw [role_recv]; rfl

theorem rest_bar : bigSep ((Rd (F := F) m).duties (barCell c) 0 \ ∅) (fun d => (Rd (F := F) m).payload (barCell c) 0 d) = bigSep Finset.univ (fun d => barPay c d) := by
  rw [Finset.sdiff_empty, duties_bar]; exact bigSep_congr fun d _ => payload_bar m c d
theorem rest_send : bigSep ((Rd (F := F) m).duties (sendCell c q j) 0 \ ∅) (fun d => (Rd (F := F) m).payload (sendCell c q j) 0 d) = sendPay m c q j := by
  rw [Finset.sdiff_empty, duties_send, bigSep_singleton, payload_send]
theorem rest_recv : bigSep ((Rd (F := F) m).duties (recvCell c q j) 0 \ ∅) (fun d => (Rd (F := F) m).payload (recvCell c q j) 0 d) = recvPay m c q j := by
  rw [Finset.sdiff_empty, duties_recv, bigSep_singleton, payload_recv]

end Sched

/-! ## What a device still owes -/

/-- The raises a device makes on other devices' cells: the signal to its `d`-th partner, the copy of chunk `q` to its
    `j`-th partner. -/
abbrev Raise : Type := Fin 7 ⊕ (Fin 2 × Fin 7)

/-- The order in which the kernel makes them. -/
def order : List Raise :=
  [.inl 0, .inl 1, .inl 2, .inl 3, .inl 4, .inl 5, .inl 6,
    .inr (0, 0), .inr (0, 1), .inr (0, 2), .inr (1, 0), .inr (1, 1), .inr (1, 2),
    .inr (0, 3), .inr (0, 4), .inr (0, 5), .inr (1, 3), .inr (1, 4), .inr (1, 5), .inr (0, 6), .inr (1, 6)]

/-- The cell a raise of device `c` raises, and by how much. -/
def rcell (c : Dev nD) : Raise → GSem nD τ sig
  | .inl d => barCell (peer c d)
  | .inr p => recvCell (peer c p.2) p.1 p.2
def ramt : Raise → ℕ
  | .inl _ => 1
  | .inr _ => N

/-- The debt of the raises of a list. -/
def debt (c : Dev nD) : List Raise → CellTallies nD τ sig Unit
  | [] => 0
  | s :: l => debt c l + tallyAt (rcell c s) () (ramt s)

/-- What device `c` owes once it has made its first `k` raises. -/
def Ow (c : Dev nD) (k : ℕ) : CellTallies nD τ sig Unit := debt c (order.drop k)

theorem debt_pos {c : Dev nD} {g : GSem nD τ sig} {u : Unit} : ∀ {l : List Raise}, 0 < debt c l g u → ∃ s ∈ l, g = rcell c s
  | [], h => absurd h (Nat.lt_irrefl 0)
  | s :: l, h => by
    unfold debt at h
    rw [Pi.add_apply, Finsupp.add_apply, tallyAt_apply] at h
    by_cases hg : g = rcell c s
    · exact ⟨s, List.mem_cons_self, hg⟩
    · rw [if_neg (fun h' => hg h'.1), Nat.add_zero] at h
      obtain ⟨s', hs', e⟩ := debt_pos h
      exact ⟨s', List.mem_cons_of_mem _ hs', e⟩

/-! ## The levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barrier cells at 1; receive cells above, by stage and, within a stage, by chunk; all else at 0. -/
def levOf : Role → ℕ
  | .inl _ => 1
  | .inr (.inl _) => 0
  | .inr (.inr (.inl p)) => 2 + 2 * (stage p.2).val + p.1.val
  | .inr (.inr (.inr _)) => 0
def lv (g : GSem nD τ sig) (_ : Unit) : ℕ := levOf (roleOf g.2)

/-- The level of the cell a raise raises. -/
def rlev : Raise → ℕ
  | .inl _ => 1
  | .inr p => 2 + 2 * (stage p.2).val + p.1.val
theorem lv_rcell (c : Dev nD) (s : Raise) : lv (rcell c s) () = rlev s := by
  rcases s with d | ⟨q, j⟩
  · show levOf (roleOf (.reg barS)) = _; rw [role_bar]; rfl
  · show levOf (roleOf (.dma (recvS q j))) = _; rw [role_recv]; rfl
theorem L_rcell (c : Dev nD) (s : Raise) : L (rcell c s) = {()} := by
  rcases s with d | ⟨q, j⟩ <;> exact L_tc _ _

omit [FloatOps F] in
/-- A device may wait on a cell below all it still owes. -/
theorem mayWait (c : Dev nD) (sm : SemLoc sig) (k b : ℕ) (hb : levOf (roleOf sm) ≤ b) (hk : ∀ s ∈ order.drop k, b < rlev s) :
    (levAts L lv : sProp 𝕄) ⊢ MayWait (c : Thread nD τ) sm () (Ow c k) :=
  MayOwe.of_cut (L := L) (lev := lv) b (fun p hp => by rw [Finset.mem_singleton.mp hp, L_tc]; exact Finset.mem_singleton_self _)
    (fun g u hg => by obtain ⟨s, -, rfl⟩ := debt_pos hg; rw [L_rcell]; exact Finset.mem_singleton_self _)
    (fun p hp => by rw [Finset.mem_singleton.mp hp]; exact hb)
    (fun g u hg => by obtain ⟨s, hs, rfl⟩ := debt_pos hg; cases u; rw [lv_rcell]; exact hk s hs)

end Cert.KernelProof
-- ==== Proof.Steps.lean ====
/-
One rule per kind of step of the kernel: what it needs and what it leaves, in terms of the exchange's state.
-/
module

public import proofs.«01_k».proof.Proof.Schedule

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The cells -/

/-- The eight semaphores of the two arrays that the kernel never uses. -/
def idle : Fin 8 → DmaSem sig := ![12, 13, 21, 22, 30, 31, 39, 40]

/-- The kernel's own semaphores: sends, receives, idle; and with the barrier in front. -/
abbrev OK : Type := (Fin 2 × Fin 7) ⊕ (Fin 2 × Fin 7) ⊕ Fin 8
abbrev CK : Type := Unit ⊕ OK
def osem : OK → SemLoc sig
  | .inl p => .dma (sendS p.1 p.2)
  | .inr (.inl p) => .dma (recvS p.1 p.2)
  | .inr (.inr i) => .dma (idle i)
def csem : CK → SemLoc sig
  | .inl _ => .reg barS
  | .inr k => osem k
def kcell (ck : Dev nD × CK) : GSem nD τ sig := ((ck.1 : Thread nD τ), csem ck.2)

section Rules

variable (m : (ℓ : Loc nD τ sig) → Buf (Elt F) ℓ) (K : Dev nD × CK → ℕ)

/-- Every cell's invariant, and that every cell is at its first round. -/
def records : sProp 𝕄 :=
  iprop((bigSep Finset.univ fun ck : Dev nD × CK => cellInv ER (Rd m) (K ck) (kcell ck)) ∗ bigSep Finset.univ fun ck : Dev nD × CK => reached ER (kcell ck) 0)
instance records_persistent : BI.Persistent (records m K) := by unfold records; infer_instance

/-- The same with the levels: what every step may use. -/
def env : sProp 𝕄 := iprop(records m K ∗ levAts L lv)
instance env_persistent : BI.Persistent (env m K) := by unfold env; infer_instance

theorem inv_at (ck : Dev nD × CK) :
    (bigSep Finset.univ fun ck : Dev nD × CK => (cellInv ER (Rd m) (K ck) (kcell ck) : sProp 𝕄)) ⊢ cellInv ER (Rd m) (K ck) (kcell ck) :=
  bigSep_elim (Finset.mem_univ ck)
omit [FloatOps F] in
theorem reached_at (ck : Dev nD × CK) :
    (bigSep Finset.univ fun ck : Dev nD × CK => (reached ER (kcell ck) 0 : sProp 𝕄)) ⊢ reached ER (kcell ck) 0 :=
  bigSep_elim (Finset.mem_univ ck)

theorem env_inv (ck : Dev nD × CK) : env m K ⊢ cellInv ER (Rd m) (K ck) (kcell ck) := by
  unfold env records
  iintro ⟨⟨#HI, -⟩, -⟩
  iapply (inv_at m K ck)
  iexact HI
theorem env_reached (ck : Dev nD × CK) : env m K ⊢ reached ER (kcell ck) 0 := by
  unfold env records
  iintro ⟨⟨-, #HR⟩, -⟩
  iapply (reached_at (F := F) ck)
  iexact HR
theorem env_invB (c : Dev nD) : env m K ⊢ cellInv ER (Rd m) (K (c, .inl ())) (barCell c) := env_inv m K (c, .inl ())
theorem env_invS (c : Dev nD) (q : Fin 2) (j : Fin 7) : env m K ⊢ cellInv ER (Rd m) (K (c, .inr (.inl (q, j)))) (sendCell c q j) := env_inv m K (c, .inr (.inl (q, j)))
theorem env_invR (c : Dev nD) (q : Fin 2) (j : Fin 7) : env m K ⊢ cellInv ER (Rd m) (K (c, .inr (.inr (.inl (q, j))))) (recvCell c q j) :=
  env_inv m K (c, .inr (.inr (.inl (q, j))))
theorem env_reaB (c : Dev nD) : env m K ⊢ reached ER (barCell c) 0 := env_reached m K (c, .inl ())
theorem env_reaS (c : Dev nD) (q : Fin 2) (j : Fin 7) : env m K ⊢ reached ER (sendCell c q j) 0 := env_reached m K (c, .inr (.inl (q, j)))
theorem env_reaR (c : Dev nD) (q : Fin 2) (j : Fin 7) : env m K ⊢ reached ER (recvCell c q j) 0 := env_reached m K (c, .inr (.inr (.inl (q, j))))
theorem env_wait (c : Dev nD) (sm : SemLoc sig) (k b : ℕ) (hb : levOf (roleOf sm) ≤ b) (hk : ∀ s ∈ order.drop k, b < rlev s) :
    (env m K : sProp 𝕄) ⊢ MayWait (c : Thread nD τ) sm () (Ow c k) := by
  unfold env
  iintro ⟨-, #HL⟩
  iapply (mayWait (F := F) c sm k b hb hk)
  iexact HL

/-! ## The state -/

/-- Device `c` has made its first `k` raises. -/
def ow (c : Dev nD) (k : ℕ) : sProp 𝕄 := iprop(∃ W, owes (c : Thread nD τ) (Ow c k) W)
/-- It may signal its `j`-th partner. -/
def btok (c : Dev nD) (j : Fin 7) : sProp 𝕄 := dutyTok ER (barCell (peer c j)) 0 j
/-- Exchange `(q, j)`: not begun; sent; its own copy done; both copies done. -/
def X0 (c : Dev nD) (q : Fin 2) (j : Fin 7) : sProp 𝕄 :=
  iprop(dutyTok ER (sendCell c q j) 0 0 ∗ dutyTok ER (recvCell (peer c j) q j) 0 0 ∗ atPos ER (sendCell c q j) 0 ∅ 0 ∗ atPos ER (recvCell c q j) 0 ∅ 0
    ∗ cred (tallyAt (recvCell c q j) () N))
def X1 (c : Dev nD) (q : Fin 2) (j : Fin 7) : sProp 𝕄 :=
  iprop(atPos ER (sendCell c q j) 0 ∅ 0 ∗ atPos ER (recvCell c q j) 0 ∅ 0 ∗ cred (tallyAt (recvCell c q j) () N) ∗ cred (tallyAt (sendCell c q j) () N))
def X2 (c : Dev nD) (q : Fin 2) (j : Fin 7) : sProp 𝕄 :=
  iprop(atPos ER (sendCell c q j) 1 ∅ 0 ∗ atPos ER (recvCell c q j) 0 ∅ 0 ∗ cred (tallyAt (recvCell c q j) () N))
def X3 (c : Dev nD) (q : Fin 2) (j : Fin 7) : sProp 𝕄 :=
  iprop(atPos ER (sendCell c q j) 1 ∅ 0 ∗ atPos ER (recvCell c q j) 1 ∅ 0)

/-- The whole statistics, and their three shares. -/
theorem acc_split (c : Dev nD) (q : Fin 2) (t : Stats F) :
    (accPts c q fullShare t : sProp 𝕄) ⊢ iprop(accPts c q shL t ∗ accPts c q shM t ∗ accPts c q shR t) := by
  unfold accPts shL shM shR
  exact (pointsTo_share (PosShare.mem_left_op_right fullShare)).1.trans (sep_mono_right (pointsTo_share (PosShare.mem_left_op_right fullShare.right)).1)
theorem acc_join (c : Dev nD) (q : Fin 2) (t : Stats F) :
    (iprop(accPts c q shL t ∗ accPts c q shM t ∗ accPts c q shR t) : sProp 𝕄) ⊢ accPts c q fullShare t := by
  unfold accPts shL shM shR
  exact (sep_mono_right (pointsTo_share (PosShare.mem_left_op_right fullShare.right)).2).trans (pointsTo_share (PosShare.mem_left_op_right fullShare)).2

/-! ## Signals and waits -/

/-- The weakest precondition of a step of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The signal to the `j`-th partner hands over the slots that this partner writes. -/
theorem r_sig (c n : Dev nD) (j : Fin 7) (hn : n = peer c j) (i : ℕ) {a : ℤ} (ha : 1 = a)
    (hO : Ow c i = Ow c (i + 1) + tallyAt (barCell (peer c j)) () 1)
    {α : Type} {Q : α → sProp 𝕄} {k : PUnit → Prog (TpuEff nD τ sig (Elt F) Λ₀ .tc) α} :
    iprop(env m K ∗ ow c i ∗ btok c j ∗ slotAny c 0 j ∗ slotAny c 1 j)
      ⊢ iprop((ow c (i + 1) -∗ WP c (k ⟨⟩) Q) -∗ WP c (.op (.semSignal (n : Thread nD τ) barS a) k) Q) := by
  subst hn
  subst ha
  unfold ow btok
  iintro ⟨#HE, ⟨%W, HO⟩, Ht, H0, H1⟩ Hk
  iapply (Rounds.wp_signal 𝒱₀ ER (Rd m) (c : Thread nD τ) none (dst := (peer c j : Thread nD τ)) (κ := K (peer c j, .inl ()))
      (d := j) (by rw [duties_bar]; exact Finset.mem_univ _) ((amount_bar m (peer c j) j).trans (by decide)) () (Ow c (i + 1)) hO)
    $$ [HO Ht H0 H1]
  · isplitr; · iapply (env_invB m K (peer c j)); iexact HE
    isplitl [HO]; · iexact HO
    isplitl [Ht]; · iexact Ht
    isplitl [H0 H1]
    · rw [payload_bar]; unfold barPay; rw [peer_peer]
      isplitl [H0] <;> iassumption
    iapply (env_reaB m K (peer c j)); iexact HE
  iintro HO
  iapply Hk
  iexists W; iexact HO

/-- The barrier wait: the slots that the device will write, from each of its partners. -/
theorem r_bar (c : Dev nD) (i : ℕ) {a : ℤ} (ha : 7 = a) (hk : ∀ s ∈ order.drop i, 1 < rlev s)
    {α : Type} {Q : α → sProp 𝕄} {k : PUnit → Prog (TpuEff nD τ sig (Elt F) Λ₀ .tc) α} :
    iprop(env m K ∗ ow c i ∗ cred (tallyAt (barCell c) () 7) ∗ atPos ER (barCell c) 0 ∅ 0)
      ⊢ iprop(((ow c i ∗ atPos ER (barCell c) 1 ∅ 0 ∗ bigSep Finset.univ (fun d => barPay c d)) -∗ WP c (k ⟨⟩) Q) -∗ WP c (.op (.semWait barS a) k) Q) := by
  subst ha
  unfold ow
  iintro ⟨#HE, ⟨%W, HO⟩, Hc, Hat⟩ Hk
  iapply (Rounds.wp_wait_rest_token 𝒱₀ ER (Rd m) (c : Thread nD τ) none (κ := K (c, .inl ()))
      (wpE_semWait_eq 𝒱₀ (c : Thread nD τ) none Set.univ) (Set.mem_univ _) () (O := Ow c i) (W := W) (R := 0) (m := 0) (T := ∅)
      (by rw [expect_bar])) $$ [Hc HO Hat]
  · isplitr; · iapply (env_invB m K c); iexact HE
    isplitl [Hc]; · iexact Hc
    isplitl [HO]; · iexact HO
    isplitr
    · iapply (env_wait m K c _ i 1 (by rw [role_bar]; exact le_refl _) hk); iexact HE
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-- The wait for the device's own copy: its share of the statistics back. -/
theorem r_ws (c : Dev nD) (q : Fin 2) (j : Fin 7) (i : ℕ) (hk : ∀ s ∈ order.drop i, 0 < rlev s)
    {sp sp' : Space} {s : Shape} {e : EltTy} {sm : DmaSem sig} (hs : sm = sendS q j) {A : Memref sig .tc sp s e} {B : Memref sig .tc sp' s e} (hB : B.view.dmaCredit = N)
    {h1 : A.view.WordExact} {h2 : B.view.WordExact}
    {α : Type} {Q : α → sProp 𝕄} {k : PUnit → Prog (TpuEff nD τ sig (Elt F) Λ₀ .tc) α} :
    iprop(env m K ∗ ow c i ∗ X1 c q j)
      ⊢ iprop(((ow c i ∗ X2 c q j ∗ accPts c q (sh j) (TJ m j q c)) -∗ WP c (k ⟨⟩) Q) -∗ WP c (.op (.waitDma2 sm A B h1 h2) k) Q) := by
  subst hs
  unfold ow X1 X2
  iintro ⟨#HE, ⟨%W, HO⟩, HaS, HaR, HcR, HcS⟩ Hk
  iapply (Rounds.wp_wait_rest_token 𝒱₀ ER (Rd m) (c : Thread nD τ) none (κ := K (c, .inr (.inl (q, j))))
      (wpE_waitDma2_eq 𝒱₀ (c : Thread nD τ) none Set.univ) (Set.mem_univ _) () (O := Ow c i) (W := W) (R := 0) (m := 0) (T := ∅)
      (by rw [Nat.zero_add, expect_send, hB])) $$ [HcS HO HaS]
  · isplitr; · iapply (env_invS m K c q j); iexact HE
    isplitl [HcS]; · rw [hB]; iexact HcS
    isplitl [HO]; · iexact HO
    isplitr
    · iapply (env_wait m K c _ i 0 (by rw [role_send]; exact le_refl _) hk); iexact HE
    iexact HaS
  iintro ⟨HO, HaS, -, Hpay⟩
  ihave Hp := (Entails.of_eq (rest_send m c q j)) $$ Hpay
  iapply Hk
  isplitl [HO]; · iexists _; iexact HO
  isplitl [HaS HaR HcR]
  · isplitl [HaS]; · iexact HaS
    isplitl [HaR] <;> iassumption
  unfold sendPay
  iexact Hp

/-- The wait for the partner's copy: the slot, holding the partner's statistics. -/
theorem r_wr (c : Dev nD) (q : Fin 2) (j : Fin 7) (i : ℕ) (hk : ∀ s ∈ order.drop i, 2 + 2 * (stage j).val + q.val < rlev s)
    {sp sp' : Space} {s : Shape} {e : EltTy} {sm : DmaSem sig} (hs : sm = recvS q j) {A : Memref sig .tc sp s e} {B : Memref sig .tc sp' s e} (hB : B.view.dmaCredit = N)
    {h1 : A.view.WordExact} {h2 : B.view.WordExact}
    {α : Type} {Q : α → sProp 𝕄} {k : PUnit → Prog (TpuEff nD τ sig (Elt F) Λ₀ .tc) α} :
    iprop(env m K ∗ ow c i ∗ X2 c q j)
      ⊢ iprop(((ow c i ∗ X3 c q j ∗ slotPts c q j (TJ m j q (peer c j))) -∗ WP c (k ⟨⟩) Q) -∗ WP c (.op (.waitDma2 sm A B h1 h2) k) Q) := by
  subst hs
  unfold ow X2 X3
  iintro ⟨#HE, ⟨%W, HO⟩, HaS, HaR, HcR⟩ Hk
  iapply (Rounds.wp_wait_rest_token 𝒱₀ ER (Rd m) (c : Thread nD τ) none (κ := K (c, .inr (.inr (.inl (q, j)))))
      (wpE_waitDma2_eq 𝒱₀ (c : Thread nD τ) none Set.univ) (Set.mem_univ _) () (O := Ow c i) (W := W) (R := 0) (m := 0) (T := ∅)
      (by rw [Nat.zero_add, expect_recv, hB])) $$ [HcR HO HaR]
  · isplitr; · iapply (env_invR m K c q j); iexact HE
    isplitl [HcR]; · rw [hB]; iexact HcR
    isplitl [HO]; · iexact HO
    isplitr
    · iapply (env_wait m K c _ i _ (by rw [role_recv]; exact le_refl _) hk); iexact HE
    iexact HaR
  iintro ⟨HO, HaR, -, Hpay⟩
  ihave Hp := (Entails.of_eq (rest_recv m c q j)) $$ Hpay
  iapply Hk
  isplitl [HO]; · iexists _; iexact HO
  isplitl [HaS HaR]
  · isplitl [HaS] <;> iassumption
  unfold recvPay
  iexact Hp

/-! ## Copies -/

/-- The copy of chunk `q` to the `j`-th partner. -/
theorem r_snd (c n : Dev nD) (q : Fin 2) (j : Fin 7) (hn : n = peer c j) (i : ℕ)
    (hO : Ow c i = Ow c (i + 1) + tallyAt (recvCell (peer c j) q j) () N)
    {src dst : Memref sig .tc .vmem S2x4x512 .bf16} (hsrc' : src = accM q) (hdst' : dst = slotM q j) {sS sR : DmaSem sig} (hS : sS = sendS q j) (hR : sR = recvS q j)
    {hsc : (dst : Memref sig (Dev.tc n : Thread nD τ).2.kind .vmem S2x4x512 .bf16).view.ref.isScScratch = false}
    {hsrc : src.view.WordExact} {hdst : (dst : Memref sig (Dev.tc n : Thread nD τ).2.kind .vmem S2x4x512 .bf16).view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    iprop(env m K ∗ ow c i ∗ X0 c q j ∗ slotAny (peer c j) q j ∗ accPts c q (sh j) (TJ m j q c))
      ⊢ iprop(((ow c (i + 1) ∗ X1 c q j) -∗ WP c (k ⟨⟩) Q)
          -∗ WP c (.op (.enqueueDma src (.remote (Dev.tc n : Thread nD τ) dst (.dma sS) hsc) (.dma sR) hsrc hdst hsem) k) Q) := by
  subst hn hsrc' hdst' hS hR
  unfold ow X0 X1 slotAny accPts
  iintro ⟨#HE, ⟨%W, HO⟩, ⟨HtS, HtR, HaS, HaR, HcR⟩, ⟨%fd, Hdst⟩, Hsrc⟩ Hk
  iapply (Rounds.wp_send_pointsTo 𝒱₀ ER (Rd m) (c : Thread nD τ) none (κ₁ := K (c, .inr (.inl (q, j)))) (κ₂ := K (peer c j, .inr (.inr (.inl (q, j)))))
    (r₁ := 0) (r₂ := 0) (d₁ := 0) (d₂ := 0) (fd := fd)
    (by rw [duties_send]; exact Finset.mem_singleton_self _) (by rw [duties_recv]; exact Finset.mem_singleton_self _)
    () () N (show (slotM q j).view.amount (.dma (recvS q j)) = N from credit_slot q j) (amount_send m c q j 0) (amount_recv m (peer c j) q j 0) (Ow c (i + 1)) hO (W := W)
    (by rw [payload_send]; exact BI.Entails.refl _)
    (by rw [payload_recv]; unfold recvPay slotPts; rw [peer_peer]; exact Entails.of_eq (pointsTo_congr (copy_slot q j _ fd)))) $$ [HO HtS HtR Hdst Hsrc]
  · isplitr; · iapply (env_invS m K c q j); iexact HE
    isplitr; · iapply (env_invR m K (peer c j) q j); iexact HE
    isplitl [Hsrc]; · iexact Hsrc
    isplitl [Hdst]; · iexact Hdst
    isplitl [HO]; · iexact HO
    isplitl [HtS]; · iexact HtS
    isplitr; · iapply (env_reaS m K c q j); iexact HE
    isplitl [HtR]; · iexact HtR
    iapply (env_reaR m K (peer c j) q j); iexact HE
  iintro ⟨HcS, HO⟩
  iapply Hk
  isplitl [HO]; · iexists W; iexact HO
  isplitl [HaS]; · iexact HaS
  isplitl [HaR]; · iexact HaR
  isplitl [HcR] <;> iassumption

/-! ## Loads and stores -/

omit [FloatOps F] in
theorem at_set {c : Dev nD} {b : Ref sig .tc} {S : Finset b.ty.Idx} {q : PosShare TreeShare} {f g : b.ty.Contents (Elt F)} (h : ∀ i ∈ S, f i = g i) :
    ((((c : Thread nD τ).loc b) ↦[S]{q} f) : sProp 𝕄) = (((c : Thread nD τ).loc b) ↦[S]{q} g) := pointsTo_congr h

/-- A load of chunk `q` of the statistics; of one of its rows; of a slot. -/
theorem r_ldA (c : Dev nD) (q : Fin 2) (t : Stats F) {hl : (aM : Memref sig .tc .vmem S2x2x4x512 .bf16).view.LoadsAt (accR q).toLoadRect}
    {α : Type} {Q : α → sProp 𝕄} {k : (S1x2x4x512.Idx → Elt F .bf16) → Prog (TpuEff nD τ sig (Elt F) Λ₀ .tc) α} :
    (accPts c q fullShare t : sProp 𝕄) ⊢ iprop((accPts c q fullShare t -∗ WP c (k (up t)) Q) -∗ WP c (.op (.load (aM : Memref sig .tc .vmem S2x2x4x512 .bf16) (accR q).toLoadRect hl) k) Q) := by
  unfold accPts
  have h := wp_load_rect (defs := defs₀ (F := F)) (Γ := .empty) 𝒱₀ (c : Thread nD τ) none Set.univ (m := (aM : Memref sig .tc .vmem S2x2x4x512 .bf16)) (r := accR q) (hl := hl)
    (S := (accM q).view.set) (q := fullShare) (f := accBuf q t) (k := k) (Q := Q) (le_of_eq (View.set_reshape _ _).symm)
  have e : ((aM : Memref sig .tc .vmem S2x2x4x512 .bf16).access (accR q)).read (Elt F) (accBuf q t) = up t := load_acc q t
  rw [e] at h
  exact h

theorem r_ldR (c : Dev nD) (q i : Fin 2) (t : Stats F) {hl : (aM : Memref sig .tc .vmem S2x2x4x512 .bf16).view.LoadsAt (rowR q i).toLoadRect}
    {α : Type} {Q : α → sProp 𝕄} {k : (S1x1x4x512.Idx → Elt F .bf16) → Prog (TpuEff nD τ sig (Elt F) Λ₀ .tc) α} :
    (accPts c q fullShare t : sProp 𝕄) ⊢ iprop((accPts c q fullShare t -∗ WP c (k (rowOf i t)) Q) -∗ WP c (.op (.load (aM : Memref sig .tc .vmem S2x2x4x512 .bf16) (rowR q i).toLoadRect hl) k) Q) := by
  unfold accPts
  have h := wp_load_rect (defs := defs₀ (F := F)) (Γ := .empty) 𝒱₀ (c : Thread nD τ) none Set.univ (m := (aM : Memref sig .tc .vmem S2x2x4x512 .bf16)) (r := rowR q i) (hl := hl)
    (S := (accM q).view.set) (q := fullShare) (f := accBuf q t) (k := k) (Q := Q) (row_subset q i)
  have e : ((aM : Memref sig .tc .vmem S2x2x4x512 .bf16).access (rowR q i)).read (Elt F) (accBuf q t) = rowOf i t := load_row q i t
  rw [e] at h
  exact h

theorem r_ldS (c : Dev nD) (q : Fin 2) (j : Fin 7) (t : Stats F) {hl : (rM : Memref sig .tc .vmem S2x3x3x2x4x512 .bf16).view.LoadsAt (slotR q j).toLoadRect}
    {α : Type} {Q : α → sProp 𝕄} {k : (S1x1x1x2x4x512.Idx → Elt F .bf16) → Prog (TpuEff nD τ sig (Elt F) Λ₀ .tc) α} :
    (slotPts c q j t : sProp 𝕄) ⊢ iprop((slotPts c q j t -∗ WP c (k (upS t)) Q) -∗ WP c (.op (.load (rM : Memref sig .tc .vmem S2x3x3x2x4x512 .bf16) (slotR q j).toLoadRect hl) k) Q) := by
  unfold slotPts
  have h := wp_load_rect (defs := defs₀ (F := F)) (Γ := .empty) 𝒱₀ (c : Thread nD τ) none Set.univ (m := (rM : Memref sig .tc .vmem S2x3x3x2x4x512 .bf16)) (r := slotR q j) (hl := hl)
    (S := (slotM q j).view.set) (q := fullShare) (f := slotBuf q j t) (k := k) (Q := Q) (le_of_eq (View.set_reshape _ _).symm)
  have e : ((rM : Memref sig .tc .vmem S2x3x3x2x4x512 .bf16).access (slotR q j)).read (Elt F) (slotBuf q j t) = upS t := load_slot q j t
  rw [e] at h
  exact h

/-- The store of chunk `q`. -/
theorem r_stA (c : Dev nD) (q : Fin 2) (t t' : Stats F) {w : S1x2x4x512.Idx → Elt F .bf16} (hw : w = up t') {hx : ((aM : Memref sig .tc .vmem S2x2x4x512 .bf16).access (accR q)).Stores Finset.univ} {hm : (Finset.univ : Finset (accR q).shape.Idx) = Finset.univ ∨ ∀ a, (accR q).stride a = 1}
    {α : Type} {Q : α → sProp 𝕄} {k : PUnit → Prog (TpuEff nD τ sig (Elt F) Λ₀ .tc) α} :
    (accPts c q fullShare t : sProp 𝕄) ⊢ iprop((accPts c q fullShare t' -∗ WP c (k ⟨⟩) Q) -∗ WP c (.op (.store (aM : Memref sig .tc .vmem S2x2x4x512 .bf16) (accR q) w Finset.univ hx hm) k) Q) := by
  subst hw
  unfold accPts
  have h := wp_store (defs := defs₀ (F := F)) (Γ := .empty) 𝒱₀ (c : Thread nD τ) none Set.univ (m := (aM : Memref sig .tc .vmem S2x2x4x512 .bf16)) (r := accR q) (w := up t') (Mk := Finset.univ) (hx := hx) (hm := hm)
    (S := (accM q).view.set) (f := accBuf q t) (k := k) (Q := Q) (le_of_eq (View.set_reshape _ _).symm)
  have e : (((aM : Memref sig .tc .vmem S2x2x4x512 .bf16).access (accR q)).loc (c : Thread nD τ) ↦[(accM q).view.set]{fullShare} ((aM : Memref sig .tc .vmem S2x2x4x512 .bf16).access (accR q)).write (Elt F) (accBuf q t) (up t') Finset.univ : sProp 𝕄)
      = ((accM q).view.loc (c : Thread nD τ) ↦[(accM q).view.set]{fullShare} accBuf q t') := pointsTo_congr (store_acc q t' _)
  rw [e] at h
  exact h

/-- The two rows of a chunk: a load whose value is not used, the stores, and what is held between them. -/
def accRow (c : Dev nD) (q : Fin 2) (a : S1x1x4x512.Idx → Elt F .bf16) : sProp 𝕄 :=
  iprop(∃ f : (cc0_scratch0 : Ref sig .tc).ty.Contents (Elt F),
    (accM q).view.loc (c : Thread nD τ) ↦[(accM q).view.set]{fullShare} ((aM : Memref sig .tc .vmem S2x2x4x512 .bf16).access (rowR q 0)).write (Elt F) f a Finset.univ)

theorem r_ldN (c : Dev nD) (q i : Fin 2) {hl : (aM : Memref sig .tc .vmem S2x2x4x512 .bf16).view.LoadsAt (rowR q i).toLoadRect}
    {α : Type} {Q : α → sProp 𝕄} {k : (S1x1x4x512.Idx → Elt F .bf16) → Prog (TpuEff nD τ sig (Elt F) Λ₀ .tc) α} :
    (accAny c q : sProp 𝕄) ⊢ iprop((∀ v, accAny c q -∗ WP c (k v) Q) -∗ WP c (.op (.load (aM : Memref sig .tc .vmem S2x2x4x512 .bf16) (rowR q i).toLoadRect hl) k) Q) := by
  unfold accAny
  iintro ⟨%f, H⟩ Hk
  iapply (wp_load_rect (defs := defs₀ (F := F)) (Γ := .empty) 𝒱₀ (c : Thread nD τ) none Set.univ (m := (aM : Memref sig .tc .vmem S2x2x4x512 .bf16)) (r := rowR q i) (hl := hl)
    (S := (accM q).view.set) (q := fullShare) (f := f) (k := k) (Q := Q) (row_subset q i)) $$ H
  iintro H
  iapply Hk
  iexists f; iexact H
theorem r_ldM (c : Dev nD) (q i : Fin 2) (a : S1x1x4x512.Idx → Elt F .bf16) {hl : (aM : Memref sig .tc .vmem S2x2x4x512 .bf16).view.LoadsAt (rowR q i).toLoadRect}
    {α : Type} {Q : α → sProp 𝕄} {k : (S1x1x4x512.Idx → Elt F .bf16) → Prog (TpuEff nD τ sig (Elt F) Λ₀ .tc) α} :
    (accRow c q a : sProp 𝕄) ⊢ iprop((∀ v, accRow c q a -∗ WP c (k v) Q) -∗ WP c (.op (.load (aM : Memref sig .tc .vmem S2x2x4x512 .bf16) (rowR q i).toLoadRect hl) k) Q) := by
  unfold accRow
  iintro ⟨%f, H⟩ Hk
  iapply (wp_load_rect (defs := defs₀ (F := F)) (Γ := .empty) 𝒱₀ (c : Thread nD τ) none Set.univ (m := (aM : Memref sig .tc .vmem S2x2x4x512 .bf16)) (r := rowR q i) (hl := hl)
    (S := (accM q).view.set) (q := fullShare) (f := _) (k := k) (Q := Q) (row_subset q i)) $$ H
  iintro H
  iapply Hk
  iexists f; iexact H
theorem r_st0 (c : Dev nD) (q : Fin 2) {w : S1x1x4x512.Idx → Elt F .bf16} {hx : ((aM : Memref sig .tc .vmem S2x2x4x512 .bf16).access (rowR q 0)).Stores Finset.univ} {hm : (Finset.univ : Finset (rowR q 0).shape.Idx) = Finset.univ ∨ ∀ a, (rowR q 0).stride a = 1}
    {α : Type} {Q : α → sProp 𝕄} {k : PUnit → Prog (TpuEff nD τ sig (Elt F) Λ₀ .tc) α} :
    (accAny c q : sProp 𝕄) ⊢ iprop((accRow c q w -∗ WP c (k ⟨⟩) Q) -∗ WP c (.op (.store (aM : Memref sig .tc .vmem S2x2x4x512 .bf16) (rowR q 0) w Finset.univ hx hm) k) Q) := by
  unfold accAny accRow
  iintro ⟨%f, H⟩ Hk
  iapply (wp_store (defs := defs₀ (F := F)) (Γ := .empty) 𝒱₀ (c : Thread nD τ) none Set.univ (m := (aM : Memref sig .tc .vmem S2x2x4x512 .bf16)) (r := rowR q 0) (w := w) (Mk := Finset.univ) (hx := hx) (hm := hm)
    (S := (accM q).view.set) (f := f) (k := k) (Q := Q) (row_subset q 0)) $$ H
  iintro H
  iapply Hk
  iexists f; iexact H
theorem r_st1 (c : Dev nD) (q : Fin 2) (a : S1x1x4x512.Idx → Elt F .bf16) {w : S1x1x4x512.Idx → Elt F .bf16} {hx : ((aM : Memref sig .tc .vmem S2x2x4x512 .bf16).access (rowR q 1)).Stores Finset.univ} {hm : (Finset.univ : Finset (rowR q 1).shape.Idx) = Finset.univ ∨ ∀ a, (rowR q 1).stride a = 1}
    {α : Type} {Q : α → sProp 𝕄} {k : PUnit → Prog (TpuEff nD τ sig (Elt F) Λ₀ .tc) α} :
    (accRow c q a : sProp 𝕄) ⊢ iprop((accPts c q fullShare (rowsOf a w) -∗ WP c (k ⟨⟩) Q) -∗ WP c (.op (.store (aM : Memref sig .tc .vmem S2x2x4x512 .bf16) (rowR q 1) w Finset.univ hx hm) k) Q) := by
  unfold accRow accPts
  iintro ⟨%f, H⟩ Hk
  iapply (wp_store (defs := defs₀ (F := F)) (Γ := .empty) 𝒱₀ (c : Thread nD τ) none Set.univ (m := (aM : Memref sig .tc .vmem S2x2x4x512 .bf16)) (r := rowR q 1) (w := w) (Mk := Finset.univ) (hx := hx) (hm := hm)
    (S := (accM q).view.set) (f := _) (k := k) (Q := Q) (row_subset q 1)) $$ H
  iintro H
  iapply Hk
  iapply (Entails.of_eq (pointsTo_congr (store_rows q a w f))) $$ H

/-! ### The staged blocks and the result -/

def xPts (c : Dev nD) : sProp 𝕄 := ((c : Thread nD τ).loc cc0_stg0_0) ↦{fullShare} xstg m c
def tPts (c : Dev nD) : sProp 𝕄 := ((c : Thread nD τ).loc cc0_stg1_0) ↦{fullShare} tstg m c
def uPts (c : Dev nD) : sProp 𝕄 := ((c : Thread nD τ).loc cc0_stg2_0) ↦{fullShare} ustg m c
def wPts (c : Dev nD) : sProp 𝕄 := ((c : Thread nD τ).loc cc0_stg3_0) ↦{fullShare} wstg m c

theorem r_ldX (c : Dev nD) (q : Fin 2) {hl : (xM : Memref sig .tc .vmem S4x1024x256 .bf16).view.LoadsAt (xR q).toLoadRect}
    {α : Type} {Q : α → sProp 𝕄} {k : (S4x512x256.Idx → Elt F .bf16) → Prog (TpuEff nD τ sig (Elt F) Λ₀ .tc) α} :
    (xPts m c : sProp 𝕄) ⊢ iprop((xPts m c -∗ WP c (k (xch m q c)) Q) -∗ WP c (.op (.load (xM : Memref sig .tc .vmem S4x1024x256 .bf16) (xR q).toLoadRect hl) k) Q) := by
  unfold xPts
  exact wp_load_rect (defs := defs₀ (F := F)) (Γ := .empty) 𝒱₀ (c : Thread nD τ) none Set.univ (m := (xM : Memref sig .tc .vmem S4x1024x256 .bf16)) (r := xR q) (hl := hl)
    (S := Finset.univ) (q := fullShare) (f := xstg m c) (k := k) (Q := Q) (Finset.subset_univ _)

omit [FloatOps F] in
theorem hz : (![0, 0] : Fin 2 → ℕ) = fun _ => 0 := funext fun a => by fin_cases a <;> rfl
theorem r_ldT (c : Dev nD) {hl : (tM : Memref sig .tc .vmem S4x128 .bf16).view.LoadsAt (Rect.unit (s := S4x128) ![0, 0] S4x128.size inb_S4x128_S4x128_0_0).toLoadRect}
    {α : Type} {Q : α → sProp 𝕄} {k : (S4x128.Idx → Elt F .bf16) → Prog (TpuEff nD τ sig (Elt F) Λ₀ .tc) α} :
    (tPts m c : sProp 𝕄) ⊢ iprop((tPts m c -∗ WP c (k (tstg m c)) Q) -∗ WP c (.op (.load (tM : Memref sig .tc .vmem S4x128 .bf16) (Rect.unit (s := S4x128) ![0, 0] S4x128.size inb_S4x128_S4x128_0_0).toLoadRect hl) k) Q) := by
  unfold tPts
  have h := wp_load_rect (defs := defs₀ (F := F)) (Γ := .empty) 𝒱₀ (c : Thread nD τ) none Set.univ (m := (tM : Memref sig .tc .vmem S4x128 .bf16)) (r := Rect.unit (s := S4x128) ![0, 0] S4x128.size inb_S4x128_S4x128_0_0) (hl := hl)
    (S := Finset.univ) (q := fullShare) (f := tstg m c) (k := k) (Q := Q) (Finset.subset_univ _)
  have e : ((tM : Memref sig .tc .vmem S4x128 .bf16).access (Rect.unit (s := S4x128) ![0, 0] S4x128.size inb_S4x128_S4x128_0_0)).read (Elt F) (tstg m c) = tstg m c := Memref.readAt_unit_zero (Elt F) cc0_stg1_0 hz _ (tstg m c)
  rw [e] at h
  exact h
theorem r_ldU (c : Dev nD) {hl : (uM : Memref sig .tc .vmem S128x256 .bf16).view.LoadsAt (Rect.unit (s := S128x256) ![0, 0] S128x256.size inb_S128x256_S128x256_0_0).toLoadRect}
    {α : Type} {Q : α → sProp 𝕄} {k : (S128x256.Idx → Elt F .bf16) → Prog (TpuEff nD τ sig (Elt F) Λ₀ .tc) α} :
    (uPts m c : sProp 𝕄) ⊢ iprop((uPts m c -∗ WP c (k (ustg m c)) Q) -∗ WP c (.op (.load (uM : Memref sig .tc .vmem S128x256 .bf16) (Rect.unit (s := S128x256) ![0, 0] S128x256.size inb_S128x256_S128x256_0_0).toLoadRect hl) k) Q) := by
  unfold uPts
  have h := wp_load_rect (defs := defs₀ (F := F)) (Γ := .empty) 𝒱₀ (c : Thread nD τ) none Set.univ (m := (uM : Memref sig .tc .vmem S128x256 .bf16)) (r := Rect.unit (s := S128x256) ![0, 0] S128x256.size inb_S128x256_S128x256_0_0) (hl := hl)
    (S := Finset.univ) (q := fullShare) (f := ustg m c) (k := k) (Q := Q) (Finset.subset_univ _)
  have e : ((uM : Memref sig .tc .vmem S128x256 .bf16).access (Rect.unit (s := S128x256) ![0, 0] S128x256.size inb_S128x256_S128x256_0_0)).read (Elt F) (ustg m c) = ustg m c := Memref.readAt_unit_zero (Elt F) cc0_stg2_0 hz _ (ustg m c)
  rw [e] at h
  exact h
theorem r_ldW (c : Dev nD) {hl : (wM : Memref sig .tc .vmem S128x256 .bf16).view.LoadsAt (Rect.unit (s := S128x256) ![0, 0] S128x256.size inb_S128x256_S128x256_0_0).toLoadRect}
    {α : Type} {Q : α → sProp 𝕄} {k : (S128x256.Idx → Elt F .bf16) → Prog (TpuEff nD τ sig (Elt F) Λ₀ .tc) α} :
    (wPts m c : sProp 𝕄) ⊢ iprop((wPts m c -∗ WP c (k (wstg m c)) Q) -∗ WP c (.op (.load (wM : Memref sig .tc .vmem S128x256 .bf16) (Rect.unit (s := S128x256) ![0, 0] S128x256.size inb_S128x256_S128x256_0_0).toLoadRect hl) k) Q) := by
  unfold wPts
  have h := wp_load_rect (defs := defs₀ (F := F)) (Γ := .empty) 𝒱₀ (c : Thread nD τ) none Set.univ (m := (wM : Memref sig .tc .vmem S128x256 .bf16)) (r := Rect.unit (s := S128x256) ![0, 0] S128x256.size inb_S128x256_S128x256_0_0) (hl := hl)
    (S := Finset.univ) (q := fullShare) (f := wstg m c) (k := k) (Q := Q) (Finset.subset_univ _)
  have e : ((wM : Memref sig .tc .vmem S128x256 .bf16).access (Rect.unit (s := S128x256) ![0, 0] S128x256.size inb_S128x256_S128x256_0_0)).read (Elt F) (wstg m c) = wstg m c := Memref.readAt_unit_zero (Elt F) cc0_stg3_0 hz _ (wstg m c)
  rw [e] at h
  exact h

/-- The result with its two chunks stored; the staging buffer of the result before, between and after the two stores. -/
def outBuf (w₀ w₁ : S4x512x256.Idx → Elt F .f32) : (cc0_stg4_0 : Ref sig .tc).ty.Contents (Elt F) :=
  ((oM : Memref sig .tc .vmem S4x1024x256 .f32).access (xR 1)).write (Elt F) (((oM : Memref sig .tc .vmem S4x1024x256 .f32).access (xR 0)).write (Elt F) (fun _ => default) w₀ Finset.univ) w₁ Finset.univ
def oAny (c : Dev nD) : sProp 𝕄 := iprop(∃ f : (cc0_stg4_0 : Ref sig .tc).ty.Contents (Elt F), ((c : Thread nD τ).loc cc0_stg4_0) ↦{fullShare} f)
def oMid (c : Dev nD) (w₀ : S4x512x256.Idx → Elt F .f32) : sProp 𝕄 :=
  iprop(∃ f : (cc0_stg4_0 : Ref sig .tc).ty.Contents (Elt F), ((c : Thread nD τ).loc cc0_stg4_0) ↦{fullShare} ((oM : Memref sig .tc .vmem S4x1024x256 .f32).access (xR 0)).write (Elt F) f w₀ Finset.univ)
def oPts (c : Dev nD) (w₀ w₁ : S4x512x256.Idx → Elt F .f32) : sProp 𝕄 := ((c : Thread nD τ).loc cc0_stg4_0) ↦{fullShare} outBuf w₀ w₁

/-- Every position of the result lies in one of the two chunks. -/
theorem out_cover (i : S4x1024x256.Idx) : ∃ (q : Fin 2) (x : S4x512x256.Idx), i = (xR q).emb x := by
  by_cases h : (i 1).val < 512
  · refine ⟨0, Idealize.ShloMosaic.ValueIdx.ix3 (i 0) ⟨(i 1).val, h⟩ (i 2), ?_⟩
    funext a; refine Fin.ext ?_
    fin_cases a <;> simp [Rect.emb_apply, Rect.off_unit, Rect.stride_unit, Idealize.ShloMosaic.ValueIdx.ix3]
  · have h1 : (i 1).val < 1024 := (i 1).isLt
    refine ⟨1, Idealize.ShloMosaic.ValueIdx.ix3 (i 0) ⟨(i 1).val - 512, by omega⟩ (i 2), ?_⟩
    funext a; refine Fin.ext ?_
    fin_cases a <;> simp [Rect.emb_apply, Rect.off_unit, Rect.stride_unit, Idealize.ShloMosaic.ValueIdx.ix3]
    omega

/-- The positions of the two chunks differ. -/
theorem out_disj (x y : S4x512x256.Idx) : (xR 1).emb x ≠ (xR 0).emb y := by
  intro h
  have h1 := congrArg (fun z : S4x1024x256.Idx => (z 1).val) h
  have h2 : (512 + 1 * (x 1).val : ℕ) = 0 + 1 * (y 1).val := h1
  have h3 : (y 1).val < 512 := (y 1).isLt
  omega

theorem outBuf_zero (w₀ w₁ : S4x512x256.Idx → Elt F .f32) (f : (cc0_stg4_0 : Ref sig .tc).ty.Contents (Elt F)) (x : S4x512x256.Idx) :
    ((oM : Memref sig .tc .vmem S4x1024x256 .f32).access (xR 1)).write (Elt F) (((oM : Memref sig .tc .vmem S4x1024x256 .f32).access (xR 0)).write (Elt F) f w₀ Finset.univ) w₁ Finset.univ ((xR 0).emb x) = w₀ x := by
  rw [View.write_of_not_mem]
  · exact View.write_emb_of_mem (v := (oM : Memref sig .tc .vmem S4x1024x256 .f32).access (xR 0)) _ _ (Finset.mem_univ _)
  · intro h
    obtain ⟨y, -, hy⟩ := Finset.mem_map.mp h
    exact out_disj y x hy
theorem outBuf_one (w₀ w₁ : S4x512x256.Idx → Elt F .f32) (f : (cc0_stg4_0 : Ref sig .tc).ty.Contents (Elt F)) (x : S4x512x256.Idx) :
    ((oM : Memref sig .tc .vmem S4x1024x256 .f32).access (xR 1)).write (Elt F) f w₁ Finset.univ ((xR 1).emb x) = w₁ x :=
  View.write_emb_of_mem (v := (oM : Memref sig .tc .vmem S4x1024x256 .f32).access (xR 1)) _ _ (Finset.mem_univ _)

theorem outBuf_eq (w₀ w₁ : S4x512x256.Idx → Elt F .f32) (f : (cc0_stg4_0 : Ref sig .tc).ty.Contents (Elt F)) :
    ((oM : Memref sig .tc .vmem S4x1024x256 .f32).access (xR 1)).write (Elt F) (((oM : Memref sig .tc .vmem S4x1024x256 .f32).access (xR 0)).write (Elt F) f w₀ Finset.univ) w₁ Finset.univ = outBuf w₀ w₁ := by
  funext i
  obtain ⟨q, x, hx⟩ := out_cover i
  have hq : ∀ q : Fin 2, q = 0 ∨ q = 1 := by decide
  unfold outBuf
  obtain rfl | rfl := hq q
  · rw [hx]; exact (outBuf_zero w₀ w₁ f x).trans (outBuf_zero w₀ w₁ _ x).symm
  · rw [hx]; exact (outBuf_one w₀ w₁ _ x).trans (outBuf_one w₀ w₁ _ x).symm

theorem r_ldO (c : Dev nD) (q : Fin 2) {hl : (oM : Memref sig .tc .vmem S4x1024x256 .f32).view.LoadsAt (xR q).toLoadRect}
    {α : Type} {Q : α → sProp 𝕄} {k : (S4x512x256.Idx → Elt F .f32) → Prog (TpuEff nD τ sig (Elt F) Λ₀ .tc) α} :
    (oAny c : sProp 𝕄) ⊢ iprop((∀ v, oAny c -∗ WP c (k v) Q) -∗ WP c (.op (.load (oM : Memref sig .tc .vmem S4x1024x256 .f32) (xR q).toLoadRect hl) k) Q) := by
  unfold oAny
  iintro ⟨%f, H⟩ Hk
  iapply (wp_load_rect (defs := defs₀ (F := F)) (Γ := .empty) 𝒱₀ (c : Thread nD τ) none Set.univ (m := (oM : Memref sig .tc .vmem S4x1024x256 .f32)) (r := xR q) (hl := hl)
    (S := Finset.univ) (q := fullShare) (f := f) (k := k) (Q := Q) (Finset.subset_univ _)) $$ H
  iintro H
  iapply Hk
  iexists f; iexact H
theorem r_ldO' (c : Dev nD) (q : Fin 2) (w₀ : S4x512x256.Idx → Elt F .f32) {hl : (oM : Memref sig .tc .vmem S4x1024x256 .f32).view.LoadsAt (xR q).toLoadRect}
    {α : Type} {Q : α → sProp 𝕄} {k : (S4x512x256.Idx → Elt F .f32) → Prog (TpuEff nD τ sig (Elt F) Λ₀ .tc) α} :
    (oMid c w₀ : sProp 𝕄) ⊢ iprop((∀ v, oMid c w₀ -∗ WP c (k v) Q) -∗ WP c (.op (.load (oM : Memref sig .tc .vmem S4x1024x256 .f32) (xR q).toLoadRect hl) k) Q) := by
  unfold oMid
  iintro ⟨%f, H⟩ Hk
  iapply (wp_load_rect (defs := defs₀ (F := F)) (Γ := .empty) 𝒱₀ (c : Thread nD τ) none Set.univ (m := (oM : Memref sig .tc .vmem S4x1024x256 .f32)) (r := xR q) (hl := hl)
    (S := Finset.univ) (q := fullShare) (f := _) (k := k) (Q := Q) (Finset.subset_univ _)) $$ H
  iintro H
  iapply Hk
  iexists f; iexact H
theorem r_stO (c : Dev nD) {w : S4x512x256.Idx → Elt F .f32} {hx : ((oM : Memref sig .tc .vmem S4x1024x256 .f32).access (xR 0)).Stores Finset.univ} {hm : (Finset.univ : Finset (xR 0).shape.Idx) = Finset.univ ∨ ∀ a, (xR 0).stride a = 1}
    {α : Type} {Q : α → sProp 𝕄} {k : PUnit → Prog (TpuEff nD τ sig (Elt F) Λ₀ .tc) α} :
    (oAny c : sProp 𝕄) ⊢ iprop((oMid c w -∗ WP c (k ⟨⟩) Q) -∗ WP c (.op (.store (oM : Memref sig .tc .vmem S4x1024x256 .f32) (xR 0) w Finset.univ hx hm) k) Q) := by
  unfold oAny oMid
  iintro ⟨%f, H⟩ Hk
  iapply (wp_store (defs := defs₀ (F := F)) (Γ := .empty) 𝒱₀ (c : Thread nD τ) none Set.univ (m := (oM : Memref sig .tc .vmem S4x1024x256 .f32)) (r := xR 0) (w := w) (Mk := Finset.univ) (hx := hx) (hm := hm)
    (S := Finset.univ) (f := f) (k := k) (Q := Q) (Finset.subset_univ _)) $$ H
  iintro H
  iapply Hk
  iexists f; iexact H
theorem r_stO' (c : Dev nD) (w₀ : S4x512x256.Idx → Elt F .f32) {w : S4x512x256.Idx → Elt F .f32} {hx : ((oM : Memref sig .tc .vmem S4x1024x256 .f32).access (xR 1)).Stores Finset.univ} {hm : (Finset.univ : Finset (xR 1).shape.Idx) = Finset.univ ∨ ∀ a, (xR 1).stride a = 1}
    {α : Type} {Q : α → sProp 𝕄} {k : PUnit → Prog (TpuEff nD τ sig (Elt F) Λ₀ .tc) α} :
    (oMid c w₀ : sProp 𝕄) ⊢ iprop((oPts c w₀ w -∗ WP c (k ⟨⟩) Q) -∗ WP c (.op (.store (oM : Memref sig .tc .vmem S4x1024x256 .f32) (xR 1) w Finset.univ hx hm) k) Q) := by
  unfold oMid oPts
  iintro ⟨%f, H⟩ Hk
  iapply (wp_store (defs := defs₀ (F := F)) (Γ := .empty) 𝒱₀ (c : Thread nD τ) none Set.univ (m := (oM : Memref sig .tc .vmem S4x1024x256 .f32)) (r := xR 1) (w := w) (Mk := Finset.univ) (hx := hx) (hm := hm)
    (S := Finset.univ) (f := _) (k := k) (Q := Q) (Finset.subset_univ _)) $$ H
  iintro H
  iapply Hk
  rw [outBuf_eq]
  iexact H

end Rules

end Cert.KernelProof
-- ==== Proof.Body.lean ====
/-
The kernel, run once at a symbolic device: each part of it in turn, and the parts put together.
-/
module

public import proofs.«01_k».proof.Proof.Steps

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## The statistics' shares, as the stages use them -/

theorem stats_T0 (c : Dev nD) (q : Fin 2) :
    (accPts c q fullShare (rowsOf (k0_pay3 (xch m q c)) (k0_pay4 (xch m q c))) : sProp 𝕄) ⊢ accPts c q fullShare (T0 m q c) := Entails.of_eq rfl
theorem stats_T0' (c : Dev nD) (q : Fin 2) :
    (accPts c q fullShare (rowsOf (k0_pay6 (xch m q c)) (k0_pay7 (xch m q c))) : sProp 𝕄) ⊢ accPts c q fullShare (T0 m q c) := Entails.of_eq rfl
theorem split0 (c : Dev nD) (q : Fin 2) :
    (accPts c q fullShare (T0 m q c) : sProp 𝕄) ⊢ iprop(accPts c q (sh 0) (TJ m 0 q c) ∗ accPts c q (sh 1) (TJ m 1 q c) ∗ accPts c q (sh 2) (TJ m 2 q c)) := acc_split c q _
theorem join0 (c : Dev nD) (q : Fin 2) :
    (iprop(accPts c q (sh 0) (TJ m 0 q c) ∗ accPts c q (sh 1) (TJ m 1 q c) ∗ accPts c q (sh 2) (TJ m 2 q c)) : sProp 𝕄) ⊢ accPts c q fullShare (T0 m q c) := acc_join c q _
theorem split1 (c : Dev nD) (q : Fin 2) :
    (accPts c q fullShare (T1 m q c) : sProp 𝕄) ⊢ iprop(accPts c q (sh 3) (TJ m 3 q c) ∗ accPts c q (sh 4) (TJ m 4 q c) ∗ accPts c q (sh 5) (TJ m 5 q c)) := acc_split c q _
theorem join1 (c : Dev nD) (q : Fin 2) :
    (iprop(accPts c q (sh 3) (TJ m 3 q c) ∗ accPts c q (sh 4) (TJ m 4 q c) ∗ accPts c q (sh 5) (TJ m 5 q c)) : sProp 𝕄) ⊢ accPts c q fullShare (T1 m q c) := acc_join c q _
theorem split2 (c : Dev nD) (q : Fin 2) : (accPts c q fullShare (T2 m q c) : sProp 𝕄) ⊢ accPts c q (sh 6) (TJ m 6 q c) := Entails.of_eq rfl
theorem join2 (c : Dev nD) (q : Fin 2) : (accPts c q (sh 6) (TJ m 6 q c) : sProp 𝕄) ⊢ accPts c q fullShare (T2 m q c) := Entails.of_eq rfl

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- What the barrier wait hands over, one by one. -/
theorem bars_open (c : Dev nD) : (bigSep Finset.univ (fun d => barPay (F := F) c d) : sProp 𝕄)
    ⊢ iprop(slotAny (peer c 0) 0 0 ∗ slotAny (peer c 0) 1 0 ∗ slotAny (peer c 1) 0 1 ∗ slotAny (peer c 1) 1 1 ∗ slotAny (peer c 2) 0 2 ∗ slotAny (peer c 2) 1 2 ∗ slotAny (peer c 3) 0 3 ∗ slotAny (peer c 3) 1 3 ∗ slotAny (peer c 4) 0 4 ∗ slotAny (peer c 4) 1 4 ∗ slotAny (peer c 5) 0 5 ∗ slotAny (peer c 5) 1 5 ∗ slotAny (peer c 6) 0 6 ∗ slotAny (peer c 6) 1 6) := by
  rw [bigSep_fin7]
  unfold barPay
  iintro ⟨⟨H00, H10⟩, ⟨H01, H11⟩, ⟨H02, H12⟩, ⟨H03, H13⟩, ⟨H04, H14⟩, ⟨H05, H15⟩, ⟨H06, H16⟩⟩
  isplitl [H00]; · iexact H00
  isplitl [H10]; · iexact H10
  isplitl [H01]; · iexact H01
  isplitl [H11]; · iexact H11
  isplitl [H02]; · iexact H02
  isplitl [H12]; · iexact H12
  isplitl [H03]; · iexact H03
  isplitl [H13]; · iexact H13
  isplitl [H04]; · iexact H04
  isplitl [H14]; · iexact H14
  isplitl [H05]; · iexact H05
  isplitl [H15]; · iexact H15
  isplitl [H06]; · iexact H06
  iexact H16

/-! ## The parts -/

theorem WP_ret (c : Dev nD) {A : Type} (a : A) {Q : A → sProp 𝕄} : (Q a : sProp 𝕄) ⊢ WP c (.ret a) Q := by
  unfold WP
  rw [wp_ret]
  iintro H
  imodintro
  iexact H
theorem WP_bind (c : Dev nD) {A B : Type} (p : Prog (TpuEff nD τ sig (Elt F) Λ₀ .tc) A) (k : A → Prog (TpuEff nD τ sig (Elt F) Λ₀ .tc) B) {Q : B → sProp 𝕄} :
    WP c (p >>= k) Q = WP c p (fun a => WP c (k a) Q) := by
  unfold WP
  rw [wp_bind_eq]
  rfl

/-- The scale and the shift of device `c`'s channels, as the kernel computes them. -/
abbrev mul (c : Dev nD) : FVec F S4x256 .f32 := k0_pay8 (tstg m c) (ustg m c)
abbrev add (c : Dev nD) : FVec F S4x256 .f32 := k0_pay9 (tstg m c) (wstg m c)
/-- The two chunks of the result. -/
def out0 (c : Dev nD) : S4x512x256.Idx → Elt F .f32 := k0_pay19 (mul m c) (add m c) (k0_pay18 (rowOf 0 (T3 m 0 c))) (rowOf 1 (T3 m 0 c)) (xch m 0 c)
def out1 (c : Dev nD) : S4x512x256.Idx → Elt F .f32 := k0_pay1 (mul m c) (add m c) (k0_pay21 (rowOf 0 (T3 m 1 c)) (rowOf 1 (T3 m 1 c)) (xch m 1 c))

set_option maxHeartbeats 1000000 in
theorem part1 (c : Dev nD) {Kt : (Σ' (d0 : Dev nD) (v2 : BitVec 32) (v3 : Sems sig S_), BitVec 32) → sProp 𝕄} :
    iprop(env m K ∗ ow c 0 ∗ btok c 0 ∗ slotAny c 0 0 ∗ slotAny c 1 0 ∗ btok c 1 ∗ slotAny c 0 1 ∗ slotAny c 1 1 ∗ btok c 2 ∗ slotAny c 0 2 ∗ slotAny c 1 2 ∗ btok c 3 ∗ slotAny c 0 3 ∗ slotAny c 1 3 ∗ btok c 4 ∗ slotAny c 0 4 ∗ slotAny c 1 4 ∗ btok c 5 ∗ slotAny c 0 5 ∗ slotAny c 1 5)
      ⊢ iprop((∀ w w', (ow c 6) -∗ Kt ⟨c, w, SemArray.scalar (sig.barrier 0 rfl), w'⟩) -∗ WP c (k0_part1 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 ) Kt) := by
  simp only [k0_part1_eq_skeleton]; unfold k0_part1_skel
  simp only [semSignalWord, semWaitWord, Prog.lift, Prog.bind_op, Prog.bind_ret, Prog.pure_eq_ret, wp_deviceId]
  iintro ⟨#HE, Ho, Hb0, Hs00, Hs10, Hb1, Hs01, Hs11, Hb2, Hs02, Hs12, Hb3, Hs03, Hs13, Hb4, Hs04, Hs14, Hb5, Hs05, Hs15⟩ Hk
  iapply (r_sig m K c _ 0 (dev1_eq c) 0 rfl rfl) $$ [Ho Hb0 Hs00 Hs10]
  · isplitr; · iexact HE
    isplitl [Ho]; · iexact Ho
    isplitl [Hb0]; · iexact Hb0
    isplitl [Hs00]; · iexact Hs00
    iexact Hs10
  iintro Ho
  iapply (r_sig m K c _ 1 (dev2_eq c) 1 rfl rfl) $$ [Ho Hb1 Hs01 Hs11]
  · isplitr; · iexact HE
    isplitl [Ho]; · iexact Ho
    isplitl [Hb1]; · iexact Hb1
    isplitl [Hs01]; · iexact Hs01
    iexact Hs11
  iintro Ho
  iapply (r_sig m K c _ 2 (dev3_eq c) 2 rfl rfl) $$ [Ho Hb2 Hs02 Hs12]
  · isplitr; · iexact HE
    isplitl [Ho]; · iexact Ho
    isplitl [Hb2]; · iexact Hb2
    isplitl [Hs02]; · iexact Hs02
    iexact Hs12
  iintro Ho
  iapply (r_sig m K c _ 3 (dev4_eq c) 3 rfl rfl) $$ [Ho Hb3 Hs03 Hs13]
  · isplitr; · iexact HE
    isplitl [Ho]; · iexact Ho
    isplitl [Hb3]; · iexact Hb3
    isplitl [Hs03]; · iexact Hs03
    iexact Hs13
  iintro Ho
  iapply (r_sig m K c _ 4 (dev5_eq c) 4 rfl rfl) $$ [Ho Hb4 Hs04 Hs14]
  · isplitr; · iexact HE
    isplitl [Ho]; · iexact Ho
    isplitl [Hb4]; · iexact Hb4
    isplitl [Hs04]; · iexact Hs04
    iexact Hs14
  iintro Ho
  iapply (r_sig m K c _ 5 (dev6_eq c) 5 rfl rfl) $$ [Ho Hb5 Hs05 Hs15]
  · isplitr; · iexact HE
    isplitl [Ho]; · iexact Ho
    isplitl [Hb5]; · iexact Hb5
    isplitl [Hs05]; · iexact Hs05
    iexact Hs15
  iintro Ho
  iapply (WP_ret (F := F) c _)
  iapply Hk
  iexact Ho

set_option maxHeartbeats 1000000 in
theorem part2 (c : Dev nD) (v2 : BitVec 32) (v23 : BitVec 32) {Kt : (BitVec 32) → sProp 𝕄} :
    iprop(env m K ∗ ow c 6 ∗ btok c 6 ∗ slotAny c 0 6 ∗ slotAny c 1 6 ∗ xPts m c ∗ accAny c 0 ∗ cred (tallyAt (barCell c) () 7) ∗ atPos ER (barCell c) 0 ∅ 0)
      ⊢ iprop((∀ r, (ow c 7 ∗ xPts m c ∗ accPts c 0 fullShare (T0 m 0 c) ∗ atPos ER (barCell c) 1 ∅ 0 ∗ slotAny (peer c 0) 0 0 ∗ slotAny (peer c 0) 1 0 ∗ slotAny (peer c 1) 0 1 ∗ slotAny (peer c 1) 1 1 ∗ slotAny (peer c 2) 0 2 ∗ slotAny (peer c 2) 1 2 ∗ slotAny (peer c 3) 0 3 ∗ slotAny (peer c 3) 1 3 ∗ slotAny (peer c 4) 0 4 ∗ slotAny (peer c 4) 1 4 ∗ slotAny (peer c 5) 0 5 ∗ slotAny (peer c 5) 1 5 ∗ slotAny (peer c 6) 0 6 ∗ slotAny (peer c 6) 1 6) -∗ Kt r) -∗ WP c (k0_part2 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 c v2 (SemArray.scalar (sig.barrier 0 rfl)) v23) Kt) := by
  simp only [k0_part2_eq_skeleton]; unfold k0_part2_skel
  simp only [semSignalWord, semWaitWord, Prog.lift, Prog.bind_op, Prog.bind_ret, Prog.pure_eq_ret, wp_deviceId]
  iintro ⟨#HE, Ho, Hb6, Hs06, Hs16, Hx, HA0, HcB, HaB⟩ Hk
  iapply (r_sig m K c _ 6 (dev7_eq c) 6 rfl rfl) $$ [Ho Hb6 Hs06 Hs16]
  · isplitr; · iexact HE
    isplitl [Ho]; · iexact Ho
    isplitl [Hb6]; · iexact Hb6
    isplitl [Hs06]; · iexact Hs06
    iexact Hs16
  iintro Ho
  iapply (r_ldX m c 0) $$ Hx
  iintro Hx
  iapply (r_ldN c 0 0) $$ HA0
  iintro %_ HA0
  iapply (r_st0 c 0) $$ HA0
  iintro HA0
  iapply (r_ldM c 0 1 _) $$ HA0
  iintro %_ HA0
  iapply (r_st1 c 0 _) $$ HA0
  iintro HA0
  ihave HA0 := (stats_T0 m c 0) $$ HA0
  iapply (r_bar m K c 7 rfl (by decide)) $$ [Ho HcB HaB]
  · isplitr; · iexact HE
    isplitl [Ho]; · iexact Ho
    isplitl [HcB]; · iexact HcB
    iexact HaB
  iintro ⟨Ho, HaB, Hpay⟩
  ihave Hp := (bars_open (F := F) c) $$ Hpay
  icases Hp with ⟨Hp00, Hp10, Hp01, Hp11, Hp02, Hp12, Hp03, Hp13, Hp04, Hp14, Hp05, Hp15, Hp06, Hp16⟩
  iapply (WP_ret (F := F) c _)
  iapply Hk
  isplitl [Ho]; · iexact Ho
  isplitl [Hx]; · iexact Hx
  isplitl [HA0]; · iexact HA0
  isplitl [HaB]; · iexact HaB
  isplitl [Hp00]; · iexact Hp00
  isplitl [Hp10]; · iexact Hp10
  isplitl [Hp01]; · iexact Hp01
  isplitl [Hp11]; · iexact Hp11
  isplitl [Hp02]; · iexact Hp02
  isplitl [Hp12]; · iexact Hp12
  isplitl [Hp03]; · iexact Hp03
  isplitl [Hp13]; · iexact Hp13
  isplitl [Hp04]; · iexact Hp04
  isplitl [Hp14]; · iexact Hp14
  isplitl [Hp05]; · iexact Hp05
  isplitl [Hp15]; · iexact Hp15
  isplitl [Hp06]; · iexact Hp06
  iexact Hp16

set_option maxHeartbeats 1000000 in
theorem part3 (c : Dev nD) (v2 : BitVec 32) {Kt : (Σ' (v51 : BitVec 32), BitVec 32) → sProp 𝕄} :
    iprop(env m K ∗ accPts c 0 fullShare (T0 m 0 c) ∗ ow c 7 ∗ X0 c 0 0 ∗ slotAny (peer c 0) 0 0 ∗ X0 c 0 1 ∗ slotAny (peer c 1) 0 1)
      ⊢ iprop((∀ r, (accPts c 0 (sh 2) (TJ m 2 0 c) ∗ ow c 9 ∗ X1 c 0 0 ∗ X1 c 0 1) -∗ Kt r) -∗ WP c (k0_part3 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 c v2) Kt) := by
  simp only [k0_part3_eq_skeleton]; unfold k0_part3_skel
  simp only [semSignalWord, semWaitWord, Prog.lift, Prog.bind_op, Prog.bind_ret, Prog.pure_eq_ret, wp_deviceId]
  iintro ⟨#HE, HA0, Ho, HX00, Hp00, HX01, Hp01⟩ Hk
  ihave Hq := (split0 m c 0) $$ HA0
  icases Hq with ⟨HA0s0, HA0s1, HA0s2⟩
  iapply (r_snd m K c _ 0 0 (dev8_eq c) 7 rfl rfl rfl rfl rfl) $$ [Ho HX00 Hp00 HA0s0]
  · isplitr; · iexact HE
    isplitl [Ho]; · iexact Ho
    isplitl [HX00]; · iexact HX00
    isplitl [Hp00]; · iexact Hp00
    iexact HA0s0
  iintro ⟨Ho, HX00⟩
  iapply (r_snd m K c _ 0 1 (dev9_eq c) 8 rfl rfl rfl rfl rfl) $$ [Ho HX01 Hp01 HA0s1]
  · isplitr; · iexact HE
    isplitl [Ho]; · iexact Ho
    isplitl [HX01]; · iexact HX01
    isplitl [Hp01]; · iexact Hp01
    iexact HA0s1
  iintro ⟨Ho, HX01⟩
  iapply (WP_ret (F := F) c _)
  iapply Hk
  isplitl [HA0s2]; · iexact HA0s2
  isplitl [Ho]; · iexact Ho
  isplitl [HX00]; · iexact HX00
  iexact HX01

set_option maxHeartbeats 1000000 in
theorem part4 (c : Dev nD) (v2 : BitVec 32) {Kt : (BitVec 32) → sProp 𝕄} :
    iprop(env m K ∗ ow c 9 ∗ X0 c 0 2 ∗ slotAny (peer c 2) 0 2 ∗ accPts c 0 (sh 2) (TJ m 2 0 c) ∗ xPts m c ∗ accAny c 1)
      ⊢ iprop((∀ r, (ow c 10 ∗ X1 c 0 2 ∗ xPts m c ∗ accPts c 1 fullShare (T0 m 1 c)) -∗ Kt r) -∗ WP c (k0_part4 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 c v2) Kt) := by
  simp only [k0_part4_eq_skeleton]; unfold k0_part4_skel
  simp only [semSignalWord, semWaitWord, Prog.lift, Prog.bind_op, Prog.bind_ret, Prog.pure_eq_ret, wp_deviceId]
  iintro ⟨#HE, Ho, HX02, Hp02, HA0s2, Hx, HA1⟩ Hk
  iapply (r_snd m K c _ 0 2 (dev10_eq c) 9 rfl rfl rfl rfl rfl) $$ [Ho HX02 Hp02 HA0s2]
  · isplitr; · iexact HE
    isplitl [Ho]; · iexact Ho
    isplitl [HX02]; · iexact HX02
    isplitl [Hp02]; · iexact Hp02
    iexact HA0s2
  iintro ⟨Ho, HX02⟩
  iapply (r_ldX m c 1) $$ Hx
  iintro Hx
  iapply (r_ldN c 1 0) $$ HA1
  iintro %_ HA1
  iapply (r_st0 c 1) $$ HA1
  iintro HA1
  iapply (r_ldM c 1 1 _) $$ HA1
  iintro %_ HA1
  iapply (r_st1 c 1 _) $$ HA1
  iintro HA1
  ihave HA1 := (stats_T0' m c 1) $$ HA1
  iapply (WP_ret (F := F) c _)
  iapply Hk
  isplitl [Ho]; · iexact Ho
  isplitl [HX02]; · iexact HX02
  isplitl [Hx]; · iexact Hx
  iexact HA1

set_option maxHeartbeats 1000000 in
theorem part5 (c : Dev nD) (v2 : BitVec 32) {Kt : (Σ' (v99 : BitVec 32), BitVec 32) → sProp 𝕄} :
    iprop(env m K ∗ accPts c 1 fullShare (T0 m 1 c) ∗ ow c 10 ∗ X0 c 1 0 ∗ slotAny (peer c 0) 1 0 ∗ X0 c 1 1 ∗ slotAny (peer c 1) 1 1)
      ⊢ iprop((∀ r, (accPts c 1 (sh 2) (TJ m 2 1 c) ∗ ow c 12 ∗ X1 c 1 0 ∗ X1 c 1 1) -∗ Kt r) -∗ WP c (k0_part5 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 c v2) Kt) := by
  simp only [k0_part5_eq_skeleton]; unfold k0_part5_skel
  simp only [semSignalWord, semWaitWord, Prog.lift, Prog.bind_op, Prog.bind_ret, Prog.pure_eq_ret, wp_deviceId]
  iintro ⟨#HE, HA1, Ho, HX10, Hp10, HX11, Hp11⟩ Hk
  ihave Hq := (split0 m c 1) $$ HA1
  icases Hq with ⟨HA1s0, HA1s1, HA1s2⟩
  iapply (r_snd m K c _ 1 0 (dev11_eq c) 10 rfl rfl rfl rfl rfl) $$ [Ho HX10 Hp10 HA1s0]
  · isplitr; · iexact HE
    isplitl [Ho]; · iexact Ho
    isplitl [HX10]; · iexact HX10
    isplitl [Hp10]; · iexact Hp10
    iexact HA1s0
  iintro ⟨Ho, HX10⟩
  iapply (r_snd m K c _ 1 1 (dev12_eq c) 11 rfl rfl rfl rfl rfl) $$ [Ho HX11 Hp11 HA1s1]
  · isplitr; · iexact HE
    isplitl [Ho]; · iexact Ho
    isplitl [HX11]; · iexact HX11
    isplitl [Hp11]; · iexact Hp11
    iexact HA1s1
  iintro ⟨Ho, HX11⟩
  iapply (WP_ret (F := F) c _)
  iapply Hk
  isplitl [HA1s2]; · iexact HA1s2
  isplitl [Ho]; · iexact Ho
  isplitl [HX10]; · iexact HX10
  iexact HX11

set_option maxHeartbeats 1000000 in
theorem part6 (c : Dev nD) {Kt : (Σ' (v125 : FVec F S4x256 .f32), FVec F S4x256 .f32) → sProp 𝕄} :
    iprop(env m K ∗ ow c 12 ∗ X0 c 1 2 ∗ slotAny (peer c 2) 1 2 ∗ accPts c 1 (sh 2) (TJ m 2 1 c) ∗ tPts m c ∗ uPts m c ∗ wPts m c ∗ X1 c 0 0)
      ⊢ iprop(((ow c 13 ∗ X1 c 1 2 ∗ tPts m c ∗ uPts m c ∗ wPts m c ∗ X2 c 0 0 ∗ accPts c 0 (sh 0) (TJ m 0 0 c)) -∗ Kt ⟨mul m c, add m c⟩) -∗ WP c (k0_part6 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 c) Kt) := by
  simp only [k0_part6_eq_skeleton]; unfold k0_part6_skel
  simp only [semSignalWord, semWaitWord, Prog.lift, Prog.bind_op, Prog.bind_ret, Prog.pure_eq_ret, wp_deviceId]
  iintro ⟨#HE, Ho, HX12, Hp12, HA1s2, Ht, Hu, Hw, HX00⟩ Hk
  iapply (r_snd m K c _ 1 2 (dev13_eq c) 12 rfl rfl rfl rfl rfl) $$ [Ho HX12 Hp12 HA1s2]
  · isplitr; · iexact HE
    isplitl [Ho]; · iexact Ho
    isplitl [HX12]; · iexact HX12
    isplitl [Hp12]; · iexact Hp12
    iexact HA1s2
  iintro ⟨Ho, HX12⟩
  iapply (r_ldT m c) $$ Ht
  iintro Ht
  iapply (r_ldU m c) $$ Hu
  iintro Hu
  iapply (r_ldT m c) $$ Ht
  iintro Ht
  iapply (r_ldW m c) $$ Hw
  iintro Hw
  iapply (r_ws m K c 0 0 13 (by decide) rfl (credit_acc 0)) $$ [Ho HX00]
  · isplitr; · iexact HE
    isplitl [Ho]; · iexact Ho
    iexact HX00
  iintro ⟨Ho, HX00, HA0s0⟩
  iapply (WP_ret (F := F) c _)
  iapply Hk
  isplitl [Ho]; · iexact Ho
  isplitl [HX12]; · iexact HX12
  isplitl [Ht]; · iexact Ht
  isplitl [Hu]; · iexact Hu
  isplitl [Hw]; · iexact Hw
  isplitl [HX00]; · iexact HX00
  iexact HA0s0

set_option maxHeartbeats 1000000 in
theorem part7 (c : Dev nD) (v40 : BitVec 32) (v51 : BitVec 32) {Kt : (Σ' (v151 : BitVec 32), BitVec 32) → sProp 𝕄} :
    iprop(env m K ∗ ow c 13 ∗ X2 c 0 0 ∗ X1 c 0 1)
      ⊢ iprop((∀ r, (ow c 13 ∗ X3 c 0 0 ∗ slotPts c 0 0 (TJ m 0 0 (peer c 0)) ∗ X2 c 0 1 ∗ accPts c 0 (sh 1) (TJ m 1 0 c)) -∗ Kt r) -∗ WP c (k0_part7 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 v40 v51) Kt) := by
  simp only [k0_part7_eq_skeleton]; unfold k0_part7_skel
  simp only [semSignalWord, semWaitWord, Prog.lift, Prog.bind_op, Prog.bind_ret, Prog.pure_eq_ret, wp_deviceId]
  iintro ⟨#HE, Ho, HX00, HX01⟩ Hk
  iapply (r_wr m K c 0 0 13 (by decide) rfl (credit_slot 0 0)) $$ [Ho HX00]
  · isplitr; · iexact HE
    isplitl [Ho]; · iexact Ho
    iexact HX00
  iintro ⟨Ho, HX00, HS00⟩
  iapply (r_ws m K c 0 1 13 (by decide) rfl (credit_acc 0)) $$ [Ho HX01]
  · isplitr; · iexact HE
    isplitl [Ho]; · iexact Ho
    iexact HX01
  iintro ⟨Ho, HX01, HA0s1⟩
  iapply (WP_ret (F := F) c _)
  iapply Hk
  isplitl [Ho]; · iexact Ho
  isplitl [HX00]; · iexact HX00
  isplitl [HS00]; · iexact HS00
  isplitl [HX01]; · iexact HX01
  iexact HA0s1

set_option maxHeartbeats 1000000 in
theorem part8 (c : Dev nD) (v62 : BitVec 32) (v151 : BitVec 32) (c0_i32_230 : BitVec 32) {Kt : (PUnit) → sProp 𝕄} :
    iprop(env m K ∗ ow c 13 ∗ X2 c 0 1 ∗ X1 c 0 2)
      ⊢ iprop((∀ r, (ow c 13 ∗ X3 c 0 1 ∗ slotPts c 0 1 (TJ m 1 0 (peer c 1)) ∗ X2 c 0 2 ∗ accPts c 0 (sh 2) (TJ m 2 0 c)) -∗ Kt r) -∗ WP c (k0_part8 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 v62 v151 c0_i32_230) Kt) := by
  simp only [k0_part8_eq_skeleton]; unfold k0_part8_skel
  simp only [semSignalWord, semWaitWord, Prog.lift, Prog.bind_op, Prog.bind_ret, Prog.pure_eq_ret, wp_deviceId]
  iintro ⟨#HE, Ho, HX01, HX02⟩ Hk
  iapply (r_wr m K c 0 1 13 (by decide) rfl (credit_slot 0 1)) $$ [Ho HX01]
  · isplitr; · iexact HE
    isplitl [Ho]; · iexact Ho
    iexact HX01
  iintro ⟨Ho, HX01, HS01⟩
  iapply (r_ws m K c 0 2 13 (by decide) rfl (credit_acc 0)) $$ [Ho HX02]
  · isplitr; · iexact HE
    isplitl [Ho]; · iexact Ho
    iexact HX02
  iintro ⟨Ho, HX02, HA0s2⟩
  iapply (WP_ret (F := F) c _)
  iapply Hk
  isplitl [Ho]; · iexact Ho
  isplitl [HX01]; · iexact HX01
  isplitl [HS01]; · iexact HS01
  isplitl [HX02]; · iexact HX02
  iexact HA0s2

set_option maxHeartbeats 1000000 in
theorem part9 (c : Dev nD) (v2 : BitVec 32) {Kt : (Σ' (v187 : BitVec 32), BitVec 32) → sProp 𝕄} :
    iprop(env m K ∗ ow c 13 ∗ X2 c 0 2 ∗ accPts c 0 (sh 0) (TJ m 0 0 c) ∗ accPts c 0 (sh 1) (TJ m 1 0 c) ∗ accPts c 0 (sh 2) (TJ m 2 0 c) ∗ slotPts c 0 0 (TJ m 0 0 (peer c 0)) ∗ slotPts c 0 1 (TJ m 1 0 (peer c 1)))
      ⊢ iprop((∀ r, (ow c 13 ∗ X3 c 0 2 ∗ slotPts c 0 2 (TJ m 2 0 (peer c 2)) ∗ accPts c 0 fullShare (T1 m 0 c) ∗ slotPts c 0 0 (TJ m 0 0 (peer c 0)) ∗ slotPts c 0 1 (TJ m 1 0 (peer c 1))) -∗ Kt r) -∗ WP c (k0_part9 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 v2) Kt) := by
  simp only [k0_part9_eq_skeleton]; unfold k0_part9_skel
  simp only [semSignalWord, semWaitWord, Prog.lift, Prog.bind_op, Prog.bind_ret, Prog.pure_eq_ret, wp_deviceId]
  iintro ⟨#HE, Ho, HX02, HA0s0, HA0s1, HA0s2, HS00, HS01⟩ Hk
  iapply (r_wr m K c 0 2 13 (by decide) rfl (credit_slot 0 2)) $$ [Ho HX02]
  · isplitr; · iexact HE
    isplitl [Ho]; · iexact Ho
    iexact HX02
  iintro ⟨Ho, HX02, HS02⟩
  ihave HA0 := (join0 m c 0) $$ [HA0s0 HA0s1 HA0s2]
  · isplitl [HA0s0]; · iexact HA0s0
    isplitl [HA0s1]; · iexact HA0s1
    iexact HA0s2
  iapply (r_ldA c 0 (T0 m 0 c)) $$ HA0
  iintro HA0
  iapply (r_ldS c 0 0 (TJ m 0 0 (peer c 0))) $$ HS00
  iintro HS00
  iapply (r_ldS c 0 1 (TJ m 1 0 (peer c 1))) $$ HS01
  iintro HS01
  iapply (r_ldS c 0 2 (TJ m 2 0 (peer c 2))) $$ HS02
  iintro HS02
  iapply (r_ldA c 0 (T0 m 0 c)) $$ HA0
  iintro HA0
  iapply (r_stA c 0 (T0 m 0 c) (T1 m 0 c) (pay10_up _ _ _ _)) $$ HA0
  iintro HA0
  iapply (WP_ret (F := F) c _)
  iapply Hk
  isplitl [Ho]; · iexact Ho
  isplitl [HX02]; · iexact HX02
  isplitl [HS02]; · iexact HS02
  isplitl [HA0]; · iexact HA0
  isplitl [HS00]; · iexact HS00
  iexact HS01

set_option maxHeartbeats 1000000 in
theorem part10 (c : Dev nD) (v2 : BitVec 32) (v188 : BitVec 32) {Kt : (Σ' (v198 : BitVec 32), BitVec 32) → sProp 𝕄} :
    iprop(env m K ∗ accPts c 0 fullShare (T1 m 0 c) ∗ ow c 13 ∗ X0 c 0 3 ∗ slotAny (peer c 3) 0 3 ∗ X0 c 0 4 ∗ slotAny (peer c 4) 0 4)
      ⊢ iprop((∀ r, (accPts c 0 (sh 5) (TJ m 5 0 c) ∗ ow c 15 ∗ X1 c 0 3 ∗ X1 c 0 4) -∗ Kt r) -∗ WP c (k0_part10 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 c v2 v188) Kt) := by
  simp only [k0_part10_eq_skeleton]; unfold k0_part10_skel
  simp only [semSignalWord, semWaitWord, Prog.lift, Prog.bind_op, Prog.bind_ret, Prog.pure_eq_ret, wp_deviceId]
  iintro ⟨#HE, HA0, Ho, HX03, Hp03, HX04, Hp04⟩ Hk
  ihave Hq := (split1 m c 0) $$ HA0
  icases Hq with ⟨HA0s3, HA0s4, HA0s5⟩
  iapply (r_snd m K c _ 0 3 (dev14_eq c) 13 rfl rfl rfl rfl rfl) $$ [Ho HX03 Hp03 HA0s3]
  · isplitr; · iexact HE
    isplitl [Ho]; · iexact Ho
    isplitl [HX03]; · iexact HX03
    isplitl [Hp03]; · iexact Hp03
    iexact HA0s3
  iintro ⟨Ho, HX03⟩
  iapply (r_snd m K c _ 0 4 (dev15_eq c) 14 rfl rfl rfl rfl rfl) $$ [Ho HX04 Hp04 HA0s4]
  · isplitr; · iexact HE
    isplitl [Ho]; · iexact Ho
    isplitl [HX04]; · iexact HX04
    isplitl [Hp04]; · iexact Hp04
    iexact HA0s4
  iintro ⟨Ho, HX04⟩
  iapply (WP_ret (F := F) c _)
  iapply Hk
  isplitl [HA0s5]; · iexact HA0s5
  isplitl [Ho]; · iexact Ho
  isplitl [HX03]; · iexact HX03
  iexact HX04

set_option maxHeartbeats 1000000 in
theorem part11 (c : Dev nD) (v88 : BitVec 32) (v209 : BitVec 32) {Kt : (PUnit) → sProp 𝕄} :
    iprop(env m K ∗ ow c 15 ∗ X0 c 0 5 ∗ slotAny (peer c 5) 0 5 ∗ accPts c 0 (sh 5) (TJ m 5 0 c) ∗ X1 c 1 0)
      ⊢ iprop((∀ r, (ow c 16 ∗ X1 c 0 5 ∗ X2 c 1 0 ∗ accPts c 1 (sh 0) (TJ m 0 1 c)) -∗ Kt r) -∗ WP c (k0_part11 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 c v88 v209) Kt) := by
  simp only [k0_part11_eq_skeleton]; unfold k0_part11_skel
  simp only [semSignalWord, semWaitWord, Prog.lift, Prog.bind_op, Prog.bind_ret, Prog.pure_eq_ret, wp_deviceId]
  iintro ⟨#HE, Ho, HX05, Hp05, HA0s5, HX10⟩ Hk
  iapply (r_snd m K c _ 0 5 (dev16_eq c) 15 rfl rfl rfl rfl rfl) $$ [Ho HX05 Hp05 HA0s5]
  · isplitr; · iexact HE
    isplitl [Ho]; · iexact Ho
    isplitl [HX05]; · iexact HX05
    isplitl [Hp05]; · iexact Hp05
    iexact HA0s5
  iintro ⟨Ho, HX05⟩
  iapply (r_ws m K c 1 0 16 (by decide) rfl (credit_acc 1)) $$ [Ho HX10]
  · isplitr; · iexact HE
    isplitl [Ho]; · iexact Ho
    iexact HX10
  iintro ⟨Ho, HX10, HA1s0⟩
  iapply (WP_ret (F := F) c _)
  iapply Hk
  isplitl [Ho]; · iexact Ho
  isplitl [HX05]; · iexact HX05
  isplitl [HX10]; · iexact HX10
  iexact HA1s0

set_option maxHeartbeats 1000000 in
theorem part12 (c : Dev nD) (v99 : BitVec 32) {Kt : (PUnit) → sProp 𝕄} :
    iprop(env m K ∗ ow c 16 ∗ X2 c 1 0 ∗ X1 c 1 1)
      ⊢ iprop((∀ r, (ow c 16 ∗ X3 c 1 0 ∗ slotPts c 1 0 (TJ m 0 1 (peer c 0)) ∗ X2 c 1 1 ∗ accPts c 1 (sh 1) (TJ m 1 1 c)) -∗ Kt r) -∗ WP c (k0_part12 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 v99) Kt) := by
  simp only [k0_part12_eq_skeleton]; unfold k0_part12_skel
  simp only [semSignalWord, semWaitWord, Prog.lift, Prog.bind_op, Prog.bind_ret, Prog.pure_eq_ret, wp_deviceId]
  iintro ⟨#HE, Ho, HX10, HX11⟩ Hk
  iapply (r_wr m K c 1 0 16 (by decide) rfl (credit_slot 1 0)) $$ [Ho HX10]
  · isplitr; · iexact HE
    isplitl [Ho]; · iexact Ho
    iexact HX10
  iintro ⟨Ho, HX10, HS10⟩
  iapply (r_ws m K c 1 1 16 (by decide) rfl (credit_acc 1)) $$ [Ho HX11]
  · isplitr; · iexact HE
    isplitl [Ho]; · iexact Ho
    iexact HX11
  iintro ⟨Ho, HX11, HA1s1⟩
  iapply (WP_ret (F := F) c _)
  iapply Hk
  isplitl [Ho]; · iexact Ho
  isplitl [HX10]; · iexact HX10
  isplitl [HS10]; · iexact HS10
  isplitl [HX11]; · iexact HX11
  iexact HA1s1

set_option maxHeartbeats 1000000 in
theorem part13 (c : Dev nD) (v110 : BitVec 32) {Kt : (FVec F S2x4x512 .bf16) → sProp 𝕄} :
    iprop(env m K ∗ ow c 16 ∗ X2 c 1 1 ∗ X1 c 1 2 ∗ accPts c 1 (sh 0) (TJ m 0 1 c) ∗ accPts c 1 (sh 1) (TJ m 1 1 c))
      ⊢ iprop(((ow c 16 ∗ X3 c 1 1 ∗ slotPts c 1 1 (TJ m 1 1 (peer c 1)) ∗ X3 c 1 2 ∗ slotPts c 1 2 (TJ m 2 1 (peer c 2)) ∗ accPts c 1 fullShare (T0 m 1 c)) -∗ Kt (k0_pay11 (up (T0 m 1 c)))) -∗ WP c (k0_part13 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 v110) Kt) := by
  simp only [k0_part13_eq_skeleton]; unfold k0_part13_skel
  simp only [semSignalWord, semWaitWord, Prog.lift, Prog.bind_op, Prog.bind_ret, Prog.pure_eq_ret, wp_deviceId]
  iintro ⟨#HE, Ho, HX11, HX12, HA1s0, HA1s1⟩ Hk
  iapply (r_wr m K c 1 1 16 (by decide) rfl (credit_slot 1 1)) $$ [Ho HX11]
  · isplitr; · iexact HE
    isplitl [Ho]; · iexact Ho
    iexact HX11
  iintro ⟨Ho, HX11, HS11⟩
  iapply (r_ws m K c 1 2 16 (by decide) rfl (credit_acc 1)) $$ [Ho HX12]
  · isplitr; · iexact HE
    isplitl [Ho]; · iexact Ho
    iexact HX12
  iintro ⟨Ho, HX12, HA1s2⟩
  iapply (r_wr m K c 1 2 16 (by decide) rfl (credit_slot 1 2)) $$ [Ho HX12]
  · isplitr; · iexact HE
    isplitl [Ho]; · iexact Ho
    iexact HX12
  iintro ⟨Ho, HX12, HS12⟩
  ihave HA1 := (join0 m c 1) $$ [HA1s0 HA1s1 HA1s2]
  · isplitl [HA1s0]; · iexact HA1s0
    isplitl [HA1s1]; · iexact HA1s1
    iexact HA1s2
  iapply (r_ldA c 1 (T0 m 1 c)) $$ HA1
  iintro HA1
  iapply (WP_ret (F := F) c _)
  iapply Hk
  isplitl [Ho]; · iexact Ho
  isplitl [HX11]; · iexact HX11
  isplitl [HS11]; · iexact HS11
  isplitl [HX12]; · iexact HX12
  isplitl [HS12]; · iexact HS12
  iexact HA1

set_option maxHeartbeats 1000000 in
theorem part14 (c : Dev nD) (v2 : BitVec 32) {Kt : (BitVec 32) → sProp 𝕄} :
    iprop(env m K ∗ slotPts c 1 0 (TJ m 0 1 (peer c 0)) ∗ slotPts c 1 1 (TJ m 1 1 (peer c 1)) ∗ slotPts c 1 2 (TJ m 2 1 (peer c 2)) ∗ accPts c 1 fullShare (T0 m 1 c))
      ⊢ iprop((∀ r, (slotPts c 1 0 (TJ m 0 1 (peer c 0)) ∗ slotPts c 1 1 (TJ m 1 1 (peer c 1)) ∗ slotPts c 1 2 (TJ m 2 1 (peer c 2)) ∗ accPts c 1 fullShare (T1 m 1 c)) -∗ Kt r) -∗ WP c (k0_part14 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 v2 (k0_pay11 (up (T0 m 1 c)))) Kt) := by
  simp only [k0_part14_eq_skeleton]; unfold k0_part14_skel
  simp only [semSignalWord, semWaitWord, Prog.lift, Prog.bind_op, Prog.bind_ret, Prog.pure_eq_ret, wp_deviceId]
  iintro ⟨#HE, HS10, HS11, HS12, HA1⟩ Hk
  iapply (r_ldS c 1 0 (TJ m 0 1 (peer c 0))) $$ HS10
  iintro HS10
  iapply (r_ldS c 1 1 (TJ m 1 1 (peer c 1))) $$ HS11
  iintro HS11
  iapply (r_ldS c 1 2 (TJ m 2 1 (peer c 2))) $$ HS12
  iintro HS12
  iapply (r_ldA c 1 (T0 m 1 c)) $$ HA1
  iintro HA1
  iapply (r_stA c 1 (T0 m 1 c) (T1 m 1 c) (pay12_up _ _ _ _)) $$ HA1
  iintro HA1
  iapply (WP_ret (F := F) c _)
  iapply Hk
  isplitl [HS10]; · iexact HS10
  isplitl [HS11]; · iexact HS11
  isplitl [HS12]; · iexact HS12
  iexact HA1

set_option maxHeartbeats 1000000 in
theorem part15 (c : Dev nD) (v2 : BitVec 32) {Kt : (Σ' (v287 : BitVec 32), BitVec 32) → sProp 𝕄} :
    iprop(env m K ∗ accPts c 1 fullShare (T1 m 1 c) ∗ ow c 16 ∗ X0 c 1 3 ∗ slotAny (peer c 3) 1 3 ∗ X0 c 1 4 ∗ slotAny (peer c 4) 1 4)
      ⊢ iprop((∀ r, (accPts c 1 (sh 5) (TJ m 5 1 c) ∗ ow c 18 ∗ X1 c 1 3 ∗ X1 c 1 4) -∗ Kt r) -∗ WP c (k0_part15 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 c v2) Kt) := by
  simp only [k0_part15_eq_skeleton]; unfold k0_part15_skel
  simp only [semSignalWord, semWaitWord, Prog.lift, Prog.bind_op, Prog.bind_ret, Prog.pure_eq_ret, wp_deviceId]
  iintro ⟨#HE, HA1, Ho, HX13, Hp13, HX14, Hp14⟩ Hk
  ihave Hq := (split1 m c 1) $$ HA1
  icases Hq with ⟨HA1s3, HA1s4, HA1s5⟩
  iapply (r_snd m K c _ 1 3 (dev17_eq c) 16 rfl rfl rfl rfl rfl) $$ [Ho HX13 Hp13 HA1s3]
  · isplitr; · iexact HE
    isplitl [Ho]; · iexact Ho
    isplitl [HX13]; · iexact HX13
    isplitl [Hp13]; · iexact Hp13
    iexact HA1s3
  iintro ⟨Ho, HX13⟩
  iapply (r_snd m K c _ 1 4 (dev18_eq c) 17 rfl rfl rfl rfl rfl) $$ [Ho HX14 Hp14 HA1s4]
  · isplitr; · iexact HE
    isplitl [Ho]; · iexact Ho
    isplitl [HX14]; · iexact HX14
    isplitl [Hp14]; · iexact Hp14
    iexact HA1s4
  iintro ⟨Ho, HX14⟩
  iapply (WP_ret (F := F) c _)
  iapply Hk
  isplitl [HA1s5]; · iexact HA1s5
  isplitl [Ho]; · iexact Ho
  isplitl [HX13]; · iexact HX13
  iexact HX14

set_option maxHeartbeats 1000000 in
theorem part16 (c : Dev nD) (v187 : BitVec 32) {Kt : (PUnit) → sProp 𝕄} :
    iprop(env m K ∗ ow c 18 ∗ X0 c 1 5 ∗ slotAny (peer c 5) 1 5 ∗ accPts c 1 (sh 5) (TJ m 5 1 c) ∗ X1 c 0 3)
      ⊢ iprop((∀ r, (ow c 19 ∗ X1 c 1 5 ∗ X3 c 0 3 ∗ accPts c 0 (sh 3) (TJ m 3 0 c) ∗ slotPts c 0 3 (TJ m 3 0 (peer c 3))) -∗ Kt r) -∗ WP c (k0_part16 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 c v187) Kt) := by
  simp only [k0_part16_eq_skeleton]; unfold k0_part16_skel
  simp only [semSignalWord, semWaitWord, Prog.lift, Prog.bind_op, Prog.bind_ret, Prog.pure_eq_ret, wp_deviceId]
  iintro ⟨#HE, Ho, HX15, Hp15, HA1s5, HX03⟩ Hk
  iapply (r_snd m K c _ 1 5 (dev19_eq c) 18 rfl rfl rfl rfl rfl) $$ [Ho HX15 Hp15 HA1s5]
  · isplitr; · iexact HE
    isplitl [Ho]; · iexact Ho
    isplitl [HX15]; · iexact HX15
    isplitl [Hp15]; · iexact Hp15
    iexact HA1s5
  iintro ⟨Ho, HX15⟩
  iapply (r_ws m K c 0 3 19 (by decide) rfl (credit_acc 0)) $$ [Ho HX03]
  · isplitr; · iexact HE
    isplitl [Ho]; · iexact Ho
    iexact HX03
  iintro ⟨Ho, HX03, HA0s3⟩
  iapply (r_wr m K c 0 3 19 (by decide) rfl (credit_slot 0 3)) $$ [Ho HX03]
  · isplitr; · iexact HE
    isplitl [Ho]; · iexact Ho
    iexact HX03
  iintro ⟨Ho, HX03, HS03⟩
  iapply (WP_ret (F := F) c _)
  iapply Hk
  isplitl [Ho]; · iexact Ho
  isplitl [HX15]; · iexact HX15
  isplitl [HX03]; · iexact HX03
  isplitl [HA0s3]; · iexact HA0s3
  iexact HS03

set_option maxHeartbeats 1000000 in
theorem part17 (c : Dev nD) (v198 : BitVec 32) {Kt : (PUnit) → sProp 𝕄} :
    iprop(env m K ∗ ow c 19 ∗ X1 c 0 4)
      ⊢ iprop((∀ r, (ow c 19 ∗ X3 c 0 4 ∗ accPts c 0 (sh 4) (TJ m 4 0 c) ∗ slotPts c 0 4 (TJ m 4 0 (peer c 4))) -∗ Kt r) -∗ WP c (k0_part17 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 v198) Kt) := by
  simp only [k0_part17_eq_skeleton]; unfold k0_part17_skel
  simp only [semSignalWord, semWaitWord, Prog.lift, Prog.bind_op, Prog.bind_ret, Prog.pure_eq_ret, wp_deviceId]
  iintro ⟨#HE, Ho, HX04⟩ Hk
  iapply (r_ws m K c 0 4 19 (by decide) rfl (credit_acc 0)) $$ [Ho HX04]
  · isplitr; · iexact HE
    isplitl [Ho]; · iexact Ho
    iexact HX04
  iintro ⟨Ho, HX04, HA0s4⟩
  iapply (r_wr m K c 0 4 19 (by decide) rfl (credit_slot 0 4)) $$ [Ho HX04]
  · isplitr; · iexact HE
    isplitl [Ho]; · iexact Ho
    iexact HX04
  iintro ⟨Ho, HX04, HS04⟩
  iapply (WP_ret (F := F) c _)
  iapply Hk
  isplitl [Ho]; · iexact Ho
  isplitl [HX04]; · iexact HX04
  isplitl [HA0s4]; · iexact HA0s4
  iexact HS04

set_option maxHeartbeats 1000000 in
theorem part18 (c : Dev nD) (v209 : BitVec 32) {Kt : (FVec F S2x4x512 .bf16) → sProp 𝕄} :
    iprop(env m K ∗ ow c 19 ∗ X1 c 0 5 ∗ accPts c 0 (sh 3) (TJ m 3 0 c) ∗ accPts c 0 (sh 4) (TJ m 4 0 c) ∗ slotPts c 0 3 (TJ m 3 0 (peer c 3)))
      ⊢ iprop(((ow c 19 ∗ X3 c 0 5 ∗ slotPts c 0 5 (TJ m 5 0 (peer c 5)) ∗ accPts c 0 fullShare (T1 m 0 c) ∗ slotPts c 0 3 (TJ m 3 0 (peer c 3))) -∗ Kt (k0_pay13 (up (T1 m 0 c)) (upS (TJ m 3 0 (peer c 3))))) -∗ WP c (k0_part18 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 v209) Kt) := by
  simp only [k0_part18_eq_skeleton]; unfold k0_part18_skel
  simp only [semSignalWord, semWaitWord, Prog.lift, Prog.bind_op, Prog.bind_ret, Prog.pure_eq_ret, wp_deviceId]
  iintro ⟨#HE, Ho, HX05, HA0s3, HA0s4, HS03⟩ Hk
  iapply (r_ws m K c 0 5 19 (by decide) rfl (credit_acc 0)) $$ [Ho HX05]
  · isplitr; · iexact HE
    isplitl [Ho]; · iexact Ho
    iexact HX05
  iintro ⟨Ho, HX05, HA0s5⟩
  iapply (r_wr m K c 0 5 19 (by decide) rfl (credit_slot 0 5)) $$ [Ho HX05]
  · isplitr; · iexact HE
    isplitl [Ho]; · iexact Ho
    iexact HX05
  iintro ⟨Ho, HX05, HS05⟩
  ihave HA0 := (join1 m c 0) $$ [HA0s3 HA0s4 HA0s5]
  · isplitl [HA0s3]; · iexact HA0s3
    isplitl [HA0s4]; · iexact HA0s4
    iexact HA0s5
  iapply (r_ldA c 0 (T1 m 0 c)) $$ HA0
  iintro HA0
  iapply (r_ldS c 0 3 (TJ m 3 0 (peer c 3))) $$ HS03
  iintro HS03
  iapply (WP_ret (F := F) c _)
  iapply Hk
  isplitl [Ho]; · iexact Ho
  isplitl [HX05]; · iexact HX05
  isplitl [HS05]; · iexact HS05
  isplitl [HA0]; · iexact HA0
  iexact HS03

set_option maxHeartbeats 1000000 in
theorem part19 (c : Dev nD) (v2 : BitVec 32) {Kt : (BitVec 32) → sProp 𝕄} :
    iprop(env m K ∗ slotPts c 0 4 (TJ m 4 0 (peer c 4)) ∗ slotPts c 0 5 (TJ m 5 0 (peer c 5)) ∗ accPts c 0 fullShare (T1 m 0 c) ∗ ow c 19 ∗ X0 c 0 6 ∗ slotAny (peer c 6) 0 6)
      ⊢ iprop((∀ r, (slotPts c 0 4 (TJ m 4 0 (peer c 4)) ∗ slotPts c 0 5 (TJ m 5 0 (peer c 5)) ∗ ow c 20 ∗ X1 c 0 6) -∗ Kt r) -∗ WP c (k0_part19 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 c v2 (k0_pay13 (up (T1 m 0 c)) (upS (TJ m 3 0 (peer c 3))))) Kt) := by
  simp only [k0_part19_eq_skeleton]; unfold k0_part19_skel
  simp only [semSignalWord, semWaitWord, Prog.lift, Prog.bind_op, Prog.bind_ret, Prog.pure_eq_ret, wp_deviceId]
  iintro ⟨#HE, HS04, HS05, HA0, Ho, HX06, Hp06⟩ Hk
  iapply (r_ldS c 0 4 (TJ m 4 0 (peer c 4))) $$ HS04
  iintro HS04
  iapply (r_ldS c 0 5 (TJ m 5 0 (peer c 5))) $$ HS05
  iintro HS05
  iapply (r_ldA c 0 (T1 m 0 c)) $$ HA0
  iintro HA0
  iapply (r_stA c 0 (T1 m 0 c) (T2 m 0 c) (pay14_up _ _ _ _)) $$ HA0
  iintro HA0
  ihave HA0s6 := (split2 m c 0) $$ HA0
  iapply (r_snd m K c _ 0 6 (dev20_eq c) 19 rfl rfl rfl rfl rfl) $$ [Ho HX06 Hp06 HA0s6]
  · isplitr; · iexact HE
    isplitl [Ho]; · iexact Ho
    isplitl [HX06]; · iexact HX06
    isplitl [Hp06]; · iexact Hp06
    iexact HA0s6
  iintro ⟨Ho, HX06⟩
  iapply (WP_ret (F := F) c _)
  iapply Hk
  isplitl [HS04]; · iexact HS04
  isplitl [HS05]; · iexact HS05
  isplitl [Ho]; · iexact Ho
  iexact HX06

set_option maxHeartbeats 1000000 in
theorem part20 (c : Dev nD) (v276 : BitVec 32) {Kt : (PUnit) → sProp 𝕄} :
    iprop(env m K ∗ ow c 20 ∗ X1 c 1 3)
      ⊢ iprop((∀ r, (ow c 20 ∗ X3 c 1 3 ∗ accPts c 1 (sh 3) (TJ m 3 1 c) ∗ slotPts c 1 3 (TJ m 3 1 (peer c 3))) -∗ Kt r) -∗ WP c (k0_part20 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 v276) Kt) := by
  simp only [k0_part20_eq_skeleton]; unfold k0_part20_skel
  simp only [semSignalWord, semWaitWord, Prog.lift, Prog.bind_op, Prog.bind_ret, Prog.pure_eq_ret, wp_deviceId]
  iintro ⟨#HE, Ho, HX13⟩ Hk
  iapply (r_ws m K c 1 3 20 (by decide) rfl (credit_acc 1)) $$ [Ho HX13]
  · isplitr; · iexact HE
    isplitl [Ho]; · iexact Ho
    iexact HX13
  iintro ⟨Ho, HX13, HA1s3⟩
  iapply (r_wr m K c 1 3 20 (by decide) rfl (credit_slot 1 3)) $$ [Ho HX13]
  · isplitr; · iexact HE
    isplitl [Ho]; · iexact Ho
    iexact HX13
  iintro ⟨Ho, HX13, HS13⟩
  iapply (WP_ret (F := F) c _)
  iapply Hk
  isplitl [Ho]; · iexact Ho
  isplitl [HX13]; · iexact HX13
  isplitl [HA1s3]; · iexact HA1s3
  iexact HS13

set_option maxHeartbeats 1000000 in
theorem part21 (c : Dev nD) (v287 : BitVec 32) {Kt : (PUnit) → sProp 𝕄} :
    iprop(env m K ∗ ow c 20 ∗ X1 c 1 4 ∗ X1 c 1 5)
      ⊢ iprop((∀ r, (ow c 20 ∗ X3 c 1 4 ∗ accPts c 1 (sh 4) (TJ m 4 1 c) ∗ slotPts c 1 4 (TJ m 4 1 (peer c 4)) ∗ X2 c 1 5 ∗ accPts c 1 (sh 5) (TJ m 5 1 c)) -∗ Kt r) -∗ WP c (k0_part21 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 v287) Kt) := by
  simp only [k0_part21_eq_skeleton]; unfold k0_part21_skel
  simp only [semSignalWord, semWaitWord, Prog.lift, Prog.bind_op, Prog.bind_ret, Prog.pure_eq_ret, wp_deviceId]
  iintro ⟨#HE, Ho, HX14, HX15⟩ Hk
  iapply (r_ws m K c 1 4 20 (by decide) rfl (credit_acc 1)) $$ [Ho HX14]
  · isplitr; · iexact HE
    isplitl [Ho]; · iexact Ho
    iexact HX14
  iintro ⟨Ho, HX14, HA1s4⟩
  iapply (r_wr m K c 1 4 20 (by decide) rfl (credit_slot 1 4)) $$ [Ho HX14]
  · isplitr; · iexact HE
    isplitl [Ho]; · iexact Ho
    iexact HX14
  iintro ⟨Ho, HX14, HS14⟩
  iapply (r_ws m K c 1 5 20 (by decide) rfl (credit_acc 1)) $$ [Ho HX15]
  · isplitr; · iexact HE
    isplitl [Ho]; · iexact Ho
    iexact HX15
  iintro ⟨Ho, HX15, HA1s5⟩
  iapply (WP_ret (F := F) c _)
  iapply Hk
  isplitl [Ho]; · iexact Ho
  isplitl [HX14]; · iexact HX14
  isplitl [HA1s4]; · iexact HA1s4
  isplitl [HS14]; · iexact HS14
  isplitl [HX15]; · iexact HX15
  iexact HA1s5

set_option maxHeartbeats 1000000 in
theorem part22 (c : Dev nD) (v298 : BitVec 32) {Kt : (FVec F S2x4x512 .bf16) → sProp 𝕄} :
    iprop(env m K ∗ ow c 20 ∗ X2 c 1 5 ∗ accPts c 1 (sh 3) (TJ m 3 1 c) ∗ accPts c 1 (sh 4) (TJ m 4 1 c) ∗ accPts c 1 (sh 5) (TJ m 5 1 c) ∗ slotPts c 1 3 (TJ m 3 1 (peer c 3)) ∗ slotPts c 1 4 (TJ m 4 1 (peer c 4)))
      ⊢ iprop(((ow c 20 ∗ X3 c 1 5 ∗ slotPts c 1 5 (TJ m 5 1 (peer c 5)) ∗ accPts c 1 fullShare (T1 m 1 c) ∗ slotPts c 1 3 (TJ m 3 1 (peer c 3)) ∗ slotPts c 1 4 (TJ m 4 1 (peer c 4))) -∗ Kt (k0_pay15 (up (T1 m 1 c)) (upS (TJ m 3 1 (peer c 3))) (upS (TJ m 4 1 (peer c 4))) (upS (TJ m 5 1 (peer c 5))))) -∗ WP c (k0_part22 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 v298) Kt) := by
  simp only [k0_part22_eq_skeleton]; unfold k0_part22_skel
  simp only [semSignalWord, semWaitWord, Prog.lift, Prog.bind_op, Prog.bind_ret, Prog.pure_eq_ret, wp_deviceId]
  iintro ⟨#HE, Ho, HX15, HA1s3, HA1s4, HA1s5, HS13, HS14⟩ Hk
  iapply (r_wr m K c 1 5 20 (by decide) rfl (credit_slot 1 5)) $$ [Ho HX15]
  · isplitr; · iexact HE
    isplitl [Ho]; · iexact Ho
    iexact HX15
  iintro ⟨Ho, HX15, HS15⟩
  ihave HA1 := (join1 m c 1) $$ [HA1s3 HA1s4 HA1s5]
  · isplitl [HA1s3]; · iexact HA1s3
    isplitl [HA1s4]; · iexact HA1s4
    iexact HA1s5
  iapply (r_ldA c 1 (T1 m 1 c)) $$ HA1
  iintro HA1
  iapply (r_ldS c 1 3 (TJ m 3 1 (peer c 3))) $$ HS13
  iintro HS13
  iapply (r_ldS c 1 4 (TJ m 4 1 (peer c 4))) $$ HS14
  iintro HS14
  iapply (r_ldS c 1 5 (TJ m 5 1 (peer c 5))) $$ HS15
  iintro HS15
  iapply (WP_ret (F := F) c _)
  iapply Hk
  isplitl [Ho]; · iexact Ho
  isplitl [HX15]; · iexact HX15
  isplitl [HS15]; · iexact HS15
  isplitl [HA1]; · iexact HA1
  isplitl [HS13]; · iexact HS13
  iexact HS14

set_option maxHeartbeats 1000000 in
theorem part23 (c : Dev nD) (v2 : BitVec 32) {Kt : (BitVec 32) → sProp 𝕄} :
    iprop(env m K ∗ accPts c 1 fullShare (T1 m 1 c) ∗ ow c 20 ∗ X0 c 1 6 ∗ slotAny (peer c 6) 1 6 ∗ X1 c 0 6)
      ⊢ iprop((∀ r, (ow c 21 ∗ X1 c 1 6 ∗ X2 c 0 6 ∗ accPts c 0 (sh 6) (TJ m 6 0 c)) -∗ Kt r) -∗ WP c (k0_part23 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 c v2 (k0_pay15 (up (T1 m 1 c)) (upS (TJ m 3 1 (peer c 3))) (upS (TJ m 4 1 (peer c 4))) (upS (TJ m 5 1 (peer c 5))))) Kt) := by
  simp only [k0_part23_eq_skeleton]; unfold k0_part23_skel
  simp only [semSignalWord, semWaitWord, Prog.lift, Prog.bind_op, Prog.bind_ret, Prog.pure_eq_ret, wp_deviceId]
  iintro ⟨#HE, HA1, Ho, HX16, Hp16, HX06⟩ Hk
  iapply (r_ldA c 1 (T1 m 1 c)) $$ HA1
  iintro HA1
  iapply (r_stA c 1 (T1 m 1 c) (T2 m 1 c) (pay16_up _ _ _ _)) $$ HA1
  iintro HA1
  ihave HA1s6 := (split2 m c 1) $$ HA1
  iapply (r_snd m K c _ 1 6 (dev21_eq c) 20 rfl rfl rfl rfl rfl) $$ [Ho HX16 Hp16 HA1s6]
  · isplitr; · iexact HE
    isplitl [Ho]; · iexact Ho
    isplitl [HX16]; · iexact HX16
    isplitl [Hp16]; · iexact Hp16
    iexact HA1s6
  iintro ⟨Ho, HX16⟩
  iapply (r_ws m K c 0 6 21 (by decide) rfl (credit_acc 0)) $$ [Ho HX06]
  · isplitr; · iexact HE
    isplitl [Ho]; · iexact Ho
    iexact HX06
  iintro ⟨Ho, HX06, HA0s6⟩
  iapply (WP_ret (F := F) c _)
  iapply Hk
  isplitl [Ho]; · iexact Ho
  isplitl [HX16]; · iexact HX16
  isplitl [HX06]; · iexact HX06
  iexact HA0s6

set_option maxHeartbeats 1000000 in
theorem part24 (c : Dev nD) (v365 : BitVec 32) {Kt : (FVec F S4x512 .f32) → sProp 𝕄} :
    iprop(env m K ∗ ow c 21 ∗ X2 c 0 6 ∗ accPts c 0 (sh 6) (TJ m 6 0 c))
      ⊢ iprop(((ow c 21 ∗ X3 c 0 6 ∗ slotPts c 0 6 (TJ m 6 0 (peer c 6)) ∗ accPts c 0 fullShare (T3 m 0 c)) -∗ Kt (k0_pay18 (rowOf 0 (T3 m 0 c)))) -∗ WP c (k0_part24 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 v365) Kt) := by
  simp only [k0_part24_eq_skeleton]; unfold k0_part24_skel
  simp only [semSignalWord, semWaitWord, Prog.lift, Prog.bind_op, Prog.bind_ret, Prog.pure_eq_ret, wp_deviceId]
  iintro ⟨#HE, Ho, HX06, HA0s6⟩ Hk
  iapply (r_wr m K c 0 6 21 (by decide) rfl (credit_slot 0 6)) $$ [Ho HX06]
  · isplitr; · iexact HE
    isplitl [Ho]; · iexact Ho
    iexact HX06
  iintro ⟨Ho, HX06, HS06⟩
  ihave HA0 := (join2 m c 0) $$ HA0s6
  iapply (r_ldA c 0 (T2 m 0 c)) $$ HA0
  iintro HA0
  iapply (r_ldS c 0 6 (TJ m 6 0 (peer c 6))) $$ HS06
  iintro HS06
  iapply (r_ldA c 0 (T2 m 0 c)) $$ HA0
  iintro HA0
  iapply (r_stA c 0 (T2 m 0 c) (T3 m 0 c) (pay17_up _ _)) $$ HA0
  iintro HA0
  iapply (r_ldR c 0 0 (T3 m 0 c)) $$ HA0
  iintro HA0
  iapply (WP_ret (F := F) c _)
  iapply Hk
  isplitl [Ho]; · iexact Ho
  isplitl [HX06]; · iexact HX06
  isplitl [HS06]; · iexact HS06
  iexact HA0

set_option maxHeartbeats 1000000 in
theorem part25 (c : Dev nD) {Kt : (PUnit) → sProp 𝕄} :
    iprop(env m K ∗ accPts c 0 fullShare (T3 m 0 c) ∗ xPts m c ∗ oAny c)
      ⊢ iprop((∀ r, (accPts c 0 fullShare (T3 m 0 c) ∗ xPts m c ∗ oMid c (out0 m c)) -∗ Kt r) -∗ WP c (k0_part25 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 (mul m c) (add m c) (k0_pay18 (rowOf 0 (T3 m 0 c)))) Kt) := by
  simp only [k0_part25_eq_skeleton]; unfold k0_part25_skel
  simp only [semSignalWord, semWaitWord, Prog.lift, Prog.bind_op, Prog.bind_ret, Prog.pure_eq_ret, wp_deviceId]
  iintro ⟨#HE, HA0, Hx, Hz⟩ Hk
  iapply (r_ldR c 0 1 (T3 m 0 c)) $$ HA0
  iintro HA0
  iapply (r_ldX m c 0) $$ Hx
  iintro Hx
  iapply (r_ldO c 0) $$ Hz
  iintro %_ Hz
  iapply (r_stO c) $$ Hz
  iintro Hz
  iapply (WP_ret (F := F) c _)
  iapply Hk
  isplitl [HA0]; · iexact HA0
  isplitl [Hx]; · iexact Hx
  iexact Hz

set_option maxHeartbeats 1000000 in
theorem part26 (c : Dev nD) (v432 : BitVec 32) {Kt : (PUnit) → sProp 𝕄} :
    iprop(env m K ∗ ow c 21 ∗ X1 c 1 6)
      ⊢ iprop((∀ r, (ow c 21 ∗ X3 c 1 6 ∗ slotPts c 1 6 (TJ m 6 1 (peer c 6)) ∗ accPts c 1 fullShare (T3 m 1 c)) -∗ Kt r) -∗ WP c (k0_part26 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3 v432) Kt) := by
  simp only [k0_part26_eq_skeleton]; unfold k0_part26_skel
  simp only [semSignalWord, semWaitWord, Prog.lift, Prog.bind_op, Prog.bind_ret, Prog.pure_eq_ret, wp_deviceId]
  iintro ⟨#HE, Ho, HX16⟩ Hk
  iapply (r_ws m K c 1 6 21 (by decide) rfl (credit_acc 1)) $$ [Ho HX16]
  · isplitr; · iexact HE
    isplitl [Ho]; · iexact Ho
    iexact HX16
  iintro ⟨Ho, HX16, HA1s6⟩
  iapply (r_wr m K c 1 6 21 (by decide) rfl (credit_slot 1 6)) $$ [Ho HX16]
  · isplitr; · iexact HE
    isplitl [Ho]; · iexact Ho
    iexact HX16
  iintro ⟨Ho, HX16, HS16⟩
  ihave HA1 := (join2 m c 1) $$ HA1s6
  iapply (r_ldA c 1 (T2 m 1 c)) $$ HA1
  iintro HA1
  iapply (r_ldS c 1 6 (TJ m 6 1 (peer c 6))) $$ HS16
  iintro HS16
  iapply (r_ldA c 1 (T2 m 1 c)) $$ HA1
  iintro HA1
  iapply (r_stA c 1 (T2 m 1 c) (T3 m 1 c) (pay20_up _ _)) $$ HA1
  iintro HA1
  iapply (WP_ret (F := F) c _)
  iapply Hk
  isplitl [Ho]; · iexact Ho
  isplitl [HX16]; · iexact HX16
  isplitl [HS16]; · iexact HS16
  iexact HA1

set_option maxHeartbeats 4000000 in
/-- The parts in turn. -/
theorem part27 (c : Dev nD) {Kt : (Σ' (v125 : FVec F S4x256 .f32) (v130 : FVec F S4x256 .f32), FVec F S4x512x256 .f32) → sProp 𝕄} :
    iprop(env m K ∗ ow c 0 ∗ btok c 0 ∗ btok c 1 ∗ btok c 2 ∗ btok c 3 ∗ btok c 4 ∗ btok c 5 ∗ btok c 6 ∗ slotAny c 0 0 ∗ slotAny c 1 0 ∗ slotAny c 0 1 ∗ slotAny c 1 1 ∗ slotAny c 0 2 ∗ slotAny c 1 2 ∗ slotAny c 0 3 ∗ slotAny c 1 3 ∗ slotAny c 0 4 ∗ slotAny c 1 4 ∗ slotAny c 0 5 ∗ slotAny c 1 5 ∗ slotAny c 0 6 ∗ slotAny c 1 6 ∗ cred (tallyAt (barCell c) () 7) ∗ atPos ER (barCell c) 0 ∅ 0 ∗ X0 c 0 0 ∗ X0 c 1 0 ∗ X0 c 0 1 ∗ X0 c 1 1 ∗ X0 c 0 2 ∗ X0 c 1 2 ∗ X0 c 0 3 ∗ X0 c 1 3 ∗ X0 c 0 4 ∗ X0 c 1 4 ∗ X0 c 0 5 ∗ X0 c 1 5 ∗ X0 c 0 6 ∗ X0 c 1 6 ∗ accAny c 0 ∗ accAny c 1 ∗ xPts m c ∗ tPts m c ∗ uPts m c ∗ wPts m c ∗ oAny c)
      ⊢ iprop(((ow c 21 ∗ atPos ER (barCell c) 1 ∅ 0 ∗ X3 c 0 0 ∗ X3 c 1 0 ∗ X3 c 0 1 ∗ X3 c 1 1 ∗ X3 c 0 2 ∗ X3 c 1 2 ∗ X3 c 0 3 ∗ X3 c 1 3 ∗ X3 c 0 4 ∗ X3 c 1 4 ∗ X3 c 0 5 ∗ X3 c 1 5 ∗ X3 c 0 6 ∗ X3 c 1 6 ∗ xPts m c ∗ tPts m c ∗ uPts m c ∗ wPts m c ∗ oMid c (out0 m c) ∗ slotPts c 0 0 (TJ m 0 0 (peer c 0)) ∗ slotPts c 0 1 (TJ m 1 0 (peer c 1)) ∗ slotPts c 0 2 (TJ m 2 0 (peer c 2)) ∗ slotPts c 1 0 (TJ m 0 1 (peer c 0)) ∗ slotPts c 1 1 (TJ m 1 1 (peer c 1)) ∗ slotPts c 1 2 (TJ m 2 1 (peer c 2)) ∗ slotPts c 0 3 (TJ m 3 0 (peer c 3)) ∗ slotPts c 0 4 (TJ m 4 0 (peer c 4)) ∗ slotPts c 0 5 (TJ m 5 0 (peer c 5)) ∗ slotPts c 1 3 (TJ m 3 1 (peer c 3)) ∗ slotPts c 1 4 (TJ m 4 1 (peer c 4)) ∗ slotPts c 1 5 (TJ m 5 1 (peer c 5)) ∗ slotPts c 0 6 (TJ m 6 0 (peer c 6)) ∗ accPts c 0 fullShare (T3 m 0 c) ∗ slotPts c 1 6 (TJ m 6 1 (peer c 6)) ∗ accPts c 1 fullShare (T3 m 1 c))
          -∗ Kt ⟨mul m c, add m c, k0_pay21 (rowOf 0 (T3 m 1 c)) (rowOf 1 (T3 m 1 c)) (xch m 1 c)⟩) -∗ WP c (k0_part27 xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3) Kt) := by
  simp only [k0_part27_eq_skeleton]; unfold k0_part27_skel
  simp only [Prog.lift, Prog.bind_op, Prog.bind_ret, Prog.pure_eq_ret, WP_bind]
  iintro ⟨#HE, Ho, Hb0, Hb1, Hb2, Hb3, Hb4, Hb5, Hb6, Hs00, Hs10, Hs01, Hs11, Hs02, Hs12, Hs03, Hs13, Hs04, Hs14, Hs05, Hs15, Hs06, Hs16, HcB, HaB, HX00, HX10, HX01, HX11, HX02, HX12, HX03, HX13, HX04, HX14, HX05, HX15, HX06, HX16, HA0, HA1, Hx, Ht, Hu, Hw, Hz⟩ Hk
  iapply (part1 m K c) $$ [Ho Hb0 Hs00 Hs10 Hb1 Hs01 Hs11 Hb2 Hs02 Hs12 Hb3 Hs03 Hs13 Hb4 Hs04 Hs14 Hb5 Hs05 Hs15]
  · isplitr; · iexact HE
    isplitl [Ho]; · iexact Ho
    isplitl [Hb0]; · iexact Hb0
    isplitl [Hs00]; · iexact Hs00
    isplitl [Hs10]; · iexact Hs10
    isplitl [Hb1]; · iexact Hb1
    isplitl [Hs01]; · iexact Hs01
    isplitl [Hs11]; · iexact Hs11
    isplitl [Hb2]; · iexact Hb2
    isplitl [Hs02]; · iexact Hs02
    isplitl [Hs12]; · iexact Hs12
    isplitl [Hb3]; · iexact Hb3
    isplitl [Hs03]; · iexact Hs03
    isplitl [Hs13]; · iexact Hs13
    isplitl [Hb4]; · iexact Hb4
    isplitl [Hs04]; · iexact Hs04
    isplitl [Hs14]; · iexact Hs14
    isplitl [Hb5]; · iexact Hb5
    isplitl [Hs05]; · iexact Hs05
    iexact Hs15
  iintro %_ %_ Ho
  iapply (part2 m K c _ _) $$ [Ho Hb6 Hs06 Hs16 Hx HA0 HcB HaB]
  · isplitr; · iexact HE
    isplitl [Ho]; · iexact Ho
    isplitl [Hb6]; · iexact Hb6
    isplitl [Hs06]; · iexact Hs06
    isplitl [Hs16]; · iexact Hs16
    isplitl [Hx]; · iexact Hx
    isplitl [HA0]; · iexact HA0
    isplitl [HcB]; · iexact HcB
    iexact HaB
  iintro %_ ⟨Ho, Hx, HA0, HaB, Hp00, Hp10, Hp01, Hp11, Hp02, Hp12, Hp03, Hp13, Hp04, Hp14, Hp05, Hp15, Hp06, Hp16⟩
  iapply (part3 m K c _) $$ [HA0 Ho HX00 Hp00 HX01 Hp01]
  · isplitr; · iexact HE
    isplitl [HA0]; · iexact HA0
    isplitl [Ho]; · iexact Ho
    isplitl [HX00]; · iexact HX00
    isplitl [Hp00]; · iexact Hp00
    isplitl [HX01]; · iexact HX01
    iexact Hp01
  iintro %_ ⟨HA0s2, Ho, HX00, HX01⟩
  iapply (part4 m K c _) $$ [Ho HX02 Hp02 HA0s2 Hx HA1]
  · isplitr; · iexact HE
    isplitl [Ho]; · iexact Ho
    isplitl [HX02]; · iexact HX02
    isplitl [Hp02]; · iexact Hp02
    isplitl [HA0s2]; · iexact HA0s2
    isplitl [Hx]; · iexact Hx
    iexact HA1
  iintro %_ ⟨Ho, HX02, Hx, HA1⟩
  iapply (part5 m K c _) $$ [HA1 Ho HX10 Hp10 HX11 Hp11]
  · isplitr; · iexact HE
    isplitl [HA1]; · iexact HA1
    isplitl [Ho]; · iexact Ho
    isplitl [HX10]; · iexact HX10
    isplitl [Hp10]; · iexact Hp10
    isplitl [HX11]; · iexact HX11
    iexact Hp11
  iintro %_ ⟨HA1s2, Ho, HX10, HX11⟩
  iapply (part6 m K c) $$ [Ho HX12 Hp12 HA1s2 Ht Hu Hw HX00]
  · isplitr; · iexact HE
    isplitl [Ho]; · iexact Ho
    isplitl [HX12]; · iexact HX12
    isplitl [Hp12]; · iexact Hp12
    isplitl [HA1s2]; · iexact HA1s2
    isplitl [Ht]; · iexact Ht
    isplitl [Hu]; · iexact Hu
    isplitl [Hw]; · iexact Hw
    iexact HX00
  iintro ⟨Ho, HX12, Ht, Hu, Hw, HX00, HA0s0⟩
  iapply (part7 m K c _ _) $$ [Ho HX00 HX01]
  · isplitr; · iexact HE
    isplitl [Ho]; · iexact Ho
    isplitl [HX00]; · iexact HX00
    iexact HX01
  iintro %_ ⟨Ho, HX00, HS00, HX01, HA0s1⟩
  iapply (part8 m K c _ _ _) $$ [Ho HX01 HX02]
  · isplitr; · iexact HE
    isplitl [Ho]; · iexact Ho
    isplitl [HX01]; · iexact HX01
    iexact HX02
  iintro %_ ⟨Ho, HX01, HS01, HX02, HA0s2⟩
  iapply (part9 m K c _) $$ [Ho HX02 HA0s0 HA0s1 HA0s2 HS00 HS01]
  · isplitr; · iexact HE
    isplitl [Ho]; · iexact Ho
    isplitl [HX02]; · iexact HX02
    isplitl [HA0s0]; · iexact HA0s0
    isplitl [HA0s1]; · iexact HA0s1
    isplitl [HA0s2]; · iexact HA0s2
    isplitl [HS00]; · iexact HS00
    iexact HS01
  iintro %_ ⟨Ho, HX02, HS02, HA0, HS00, HS01⟩
  iapply (part10 m K c _ _) $$ [HA0 Ho HX03 Hp03 HX04 Hp04]
  · isplitr; · iexact HE
    isplitl [HA0]; · iexact HA0
    isplitl [Ho]; · iexact Ho
    isplitl [HX03]; · iexact HX03
    isplitl [Hp03]; · iexact Hp03
    isplitl [HX04]; · iexact HX04
    iexact Hp04
  iintro %_ ⟨HA0s5, Ho, HX03, HX04⟩
  iapply (part11 m K c _ _) $$ [Ho HX05 Hp05 HA0s5 HX10]
  · isplitr; · iexact HE
    isplitl [Ho]; · iexact Ho
    isplitl [HX05]; · iexact HX05
    isplitl [Hp05]; · iexact Hp05
    isplitl [HA0s5]; · iexact HA0s5
    iexact HX10
  iintro %_ ⟨Ho, HX05, HX10, HA1s0⟩
  iapply (part12 m K c _) $$ [Ho HX10 HX11]
  · isplitr; · iexact HE
    isplitl [Ho]; · iexact Ho
    isplitl [HX10]; · iexact HX10
    iexact HX11
  iintro %_ ⟨Ho, HX10, HS10, HX11, HA1s1⟩
  iapply (part13 m K c _) $$ [Ho HX11 HX12 HA1s0 HA1s1]
  · isplitr; · iexact HE
    isplitl [Ho]; · iexact Ho
    isplitl [HX11]; · iexact HX11
    isplitl [HX12]; · iexact HX12
    isplitl [HA1s0]; · iexact HA1s0
    iexact HA1s1
  iintro ⟨Ho, HX11, HS11, HX12, HS12, HA1⟩
  iapply (part14 m K c _) $$ [HS10 HS11 HS12 HA1]
  · isplitr; · iexact HE
    isplitl [HS10]; · iexact HS10
    isplitl [HS11]; · iexact HS11
    isplitl [HS12]; · iexact HS12
    iexact HA1
  iintro %_ ⟨HS10, HS11, HS12, HA1⟩
  iapply (part15 m K c _) $$ [HA1 Ho HX13 Hp13 HX14 Hp14]
  · isplitr; · iexact HE
    isplitl [HA1]; · iexact HA1
    isplitl [Ho]; · iexact Ho
    isplitl [HX13]; · iexact HX13
    isplitl [Hp13]; · iexact Hp13
    isplitl [HX14]; · iexact HX14
    iexact Hp14
  iintro %_ ⟨HA1s5, Ho, HX13, HX14⟩
  iapply (part16 m K c _) $$ [Ho HX15 Hp15 HA1s5 HX03]
  · isplitr; · iexact HE
    isplitl [Ho]; · iexact Ho
    isplitl [HX15]; · iexact HX15
    isplitl [Hp15]; · iexact Hp15
    isplitl [HA1s5]; · iexact HA1s5
    iexact HX03
  iintro %_ ⟨Ho, HX15, HX03, HA0s3, HS03⟩
  iapply (part17 m K c _) $$ [Ho HX04]
  · isplitr; · iexact HE
    isplitl [Ho]; · iexact Ho
    iexact HX04
  iintro %_ ⟨Ho, HX04, HA0s4, HS04⟩
  iapply (part18 m K c _) $$ [Ho HX05 HA0s3 HA0s4 HS03]
  · isplitr; · iexact HE
    isplitl [Ho]; · iexact Ho
    isplitl [HX05]; · iexact HX05
    isplitl [HA0s3]; · iexact HA0s3
    isplitl [HA0s4]; · iexact HA0s4
    iexact HS03
  iintro ⟨Ho, HX05, HS05, HA0, HS03⟩
  iapply (part19 m K c _) $$ [HS04 HS05 HA0 Ho HX06 Hp06]
  · isplitr; · iexact HE
    isplitl [HS04]; · iexact HS04
    isplitl [HS05]; · iexact HS05
    isplitl [HA0]; · iexact HA0
    isplitl [Ho]; · iexact Ho
    isplitl [HX06]; · iexact HX06
    iexact Hp06
  iintro %_ ⟨HS04, HS05, Ho, HX06⟩
  iapply (part20 m K c _) $$ [Ho HX13]
  · isplitr; · iexact HE
    isplitl [Ho]; · iexact Ho
    iexact HX13
  iintro %_ ⟨Ho, HX13, HA1s3, HS13⟩
  iapply (part21 m K c _) $$ [Ho HX14 HX15]
  · isplitr; · iexact HE
    isplitl [Ho]; · iexact Ho
    isplitl [HX14]; · iexact HX14
    iexact HX15
  iintro %_ ⟨Ho, HX14, HA1s4, HS14, HX15, HA1s5⟩
  iapply (part22 m K c _) $$ [Ho HX15 HA1s3 HA1s4 HA1s5 HS13 HS14]
  · isplitr; · iexact HE
    isplitl [Ho]; · iexact Ho
    isplitl [HX15]; · iexact HX15
    isplitl [HA1s3]; · iexact HA1s3
    isplitl [HA1s4]; · iexact HA1s4
    isplitl [HA1s5]; · iexact HA1s5
    isplitl [HS13]; · iexact HS13
    iexact HS14
  iintro ⟨Ho, HX15, HS15, HA1, HS13, HS14⟩
  iapply (part23 m K c _) $$ [HA1 Ho HX16 Hp16 HX06]
  · isplitr; · iexact HE
    isplitl [HA1]; · iexact HA1
    isplitl [Ho]; · iexact Ho
    isplitl [HX16]; · iexact HX16
    isplitl [Hp16]; · iexact Hp16
    iexact HX06
  iintro %_ ⟨Ho, HX16, HX06, HA0s6⟩
  iapply (part24 m K c _) $$ [Ho HX06 HA0s6]
  · isplitr; · iexact HE
    isplitl [Ho]; · iexact Ho
    isplitl [HX06]; · iexact HX06
    iexact HA0s6
  iintro ⟨Ho, HX06, HS06, HA0⟩
  iapply (part25 m K c) $$ [HA0 Hx Hz]
  · isplitr; · iexact HE
    isplitl [HA0]; · iexact HA0
    isplitl [Hx]; · iexact Hx
    iexact Hz
  iintro %_ ⟨HA0, Hx, Hz⟩
  iapply (part26 m K c _) $$ [Ho HX16]
  · isplitr; · iexact HE
    isplitl [Ho]; · iexact Ho
    iexact HX16
  iintro %_ ⟨Ho, HX16, HS16, HA1⟩
  iapply (r_ldR c 1 0 (T3 m 1 c)) $$ HA1
  iintro HA1
  iapply (r_ldR c 1 1 (T3 m 1 c)) $$ HA1
  iintro HA1
  iapply (r_ldX m c 1) $$ Hx
  iintro Hx
  iapply (WP_ret (F := F) c _)
  iapply Hk
  isplitl [Ho]; · iexact Ho
  isplitl [HaB]; · iexact HaB
  isplitl [HX00]; · iexact HX00
  isplitl [HX10]; · iexact HX10
  isplitl [HX01]; · iexact HX01
  isplitl [HX11]; · iexact HX11
  isplitl [HX02]; · iexact HX02
  isplitl [HX12]; · iexact HX12
  isplitl [HX03]; · iexact HX03
  isplitl [HX13]; · iexact HX13
  isplitl [HX04]; · iexact HX04
  isplitl [HX14]; · iexact HX14
  isplitl [HX05]; · iexact HX05
  isplitl [HX15]; · iexact HX15
  isplitl [HX06]; · iexact HX06
  isplitl [HX16]; · iexact HX16
  isplitl [Hx]; · iexact Hx
  isplitl [Ht]; · iexact Ht
  isplitl [Hu]; · iexact Hu
  isplitl [Hw]; · iexact Hw
  isplitl [Hz]; · iexact Hz
  isplitl [HS00]; · iexact HS00
  isplitl [HS01]; · iexact HS01
  isplitl [HS02]; · iexact HS02
  isplitl [HS10]; · iexact HS10
  isplitl [HS11]; · iexact HS11
  isplitl [HS12]; · iexact HS12
  isplitl [HS03]; · iexact HS03
  isplitl [HS04]; · iexact HS04
  isplitl [HS05]; · iexact HS05
  isplitl [HS13]; · iexact HS13
  isplitl [HS14]; · iexact HS14
  isplitl [HS15]; · iexact HS15
  isplitl [HS06]; · iexact HS06
  isplitl [HA0]; · iexact HA0
  isplitl [HS16]; · iexact HS16
  iexact HA1

set_option maxHeartbeats 1000000 in
/-- The whole kernel. -/
theorem body_run (c : Dev nD) {Kt : PUnit → sProp 𝕄} :
    iprop(env m K ∗ ow c 0 ∗ btok c 0 ∗ btok c 1 ∗ btok c 2 ∗ btok c 3 ∗ btok c 4 ∗ btok c 5 ∗ btok c 6 ∗ slotAny c 0 0 ∗ slotAny c 1 0 ∗ slotAny c 0 1 ∗ slotAny c 1 1 ∗ slotAny c 0 2 ∗ slotAny c 1 2 ∗ slotAny c 0 3 ∗ slotAny c 1 3 ∗ slotAny c 0 4 ∗ slotAny c 1 4 ∗ slotAny c 0 5 ∗ slotAny c 1 5 ∗ slotAny c 0 6 ∗ slotAny c 1 6 ∗ cred (tallyAt (barCell c) () 7) ∗ atPos ER (barCell c) 0 ∅ 0 ∗ X0 c 0 0 ∗ X0 c 1 0 ∗ X0 c 0 1 ∗ X0 c 1 1 ∗ X0 c 0 2 ∗ X0 c 1 2 ∗ X0 c 0 3 ∗ X0 c 1 3 ∗ X0 c 0 4 ∗ X0 c 1 4 ∗ X0 c 0 5 ∗ X0 c 1 5 ∗ X0 c 0 6 ∗ X0 c 1 6 ∗ accAny c 0 ∗ accAny c 1 ∗ xPts m c ∗ tPts m c ∗ uPts m c ∗ wPts m c ∗ oAny c)
      ⊢ iprop(((ow c 21 ∗ atPos ER (barCell c) 1 ∅ 0 ∗ X3 c 0 0 ∗ X3 c 1 0 ∗ X3 c 0 1 ∗ X3 c 1 1 ∗ X3 c 0 2 ∗ X3 c 1 2 ∗ X3 c 0 3 ∗ X3 c 1 3 ∗ X3 c 0 4 ∗ X3 c 1 4 ∗ X3 c 0 5 ∗ X3 c 1 5 ∗ X3 c 0 6 ∗ X3 c 1 6 ∗ xPts m c ∗ tPts m c ∗ uPts m c ∗ wPts m c ∗ oPts c (out0 m c) (out1 m c) ∗ slotPts c 0 0 (TJ m 0 0 (peer c 0)) ∗ slotPts c 0 1 (TJ m 1 0 (peer c 1)) ∗ slotPts c 0 2 (TJ m 2 0 (peer c 2)) ∗ slotPts c 1 0 (TJ m 0 1 (peer c 0)) ∗ slotPts c 1 1 (TJ m 1 1 (peer c 1)) ∗ slotPts c 1 2 (TJ m 2 1 (peer c 2)) ∗ slotPts c 0 3 (TJ m 3 0 (peer c 3)) ∗ slotPts c 0 4 (TJ m 4 0 (peer c 4)) ∗ slotPts c 0 5 (TJ m 5 0 (peer c 5)) ∗ slotPts c 1 3 (TJ m 3 1 (peer c 3)) ∗ slotPts c 1 4 (TJ m 4 1 (peer c 4)) ∗ slotPts c 1 5 (TJ m 5 1 (peer c 5)) ∗ slotPts c 0 6 (TJ m 6 0 (peer c 6)) ∗ accPts c 0 fullShare (T3 m 0 c) ∗ slotPts c 1 6 (TJ m 6 1 (peer c 6)) ∗ accPts c 1 fullShare (T3 m 1 c))
          -∗ Kt ⟨⟩) -∗ WP c (cc0_body xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3) Kt) := by
  simp only [cc0_body_eq_skeleton]; unfold cc0_body_skel
  simp only [Prog.lift, Prog.bind_op, Prog.bind_ret, Prog.pure_eq_ret, WP_bind]
  iintro ⟨#HE, Ho, Hb0, Hb1, Hb2, Hb3, Hb4, Hb5, Hb6, Hs00, Hs10, Hs01, Hs11, Hs02, Hs12, Hs03, Hs13, Hs04, Hs14, Hs05, Hs15, Hs06, Hs16, HcB, HaB, HX00, HX10, HX01, HX11, HX02, HX12, HX03, HX13, HX04, HX14, HX05, HX15, HX06, HX16, HA0, HA1, Hx, Ht, Hu, Hw, Hz⟩ Hk
  iapply (part27 m K c) $$ [Ho Hb0 Hb1 Hb2 Hb3 Hb4 Hb5 Hb6 Hs00 Hs10 Hs01 Hs11 Hs02 Hs12 Hs03 Hs13 Hs04 Hs14 Hs05 Hs15 Hs06 Hs16 HcB HaB HX00 HX10 HX01 HX11 HX02 HX12 HX03 HX13 HX04 HX14 HX05 HX15 HX06 HX16 HA0 HA1 Hx Ht Hu Hw Hz]
  · isplitr; · iexact HE
    isplitl [Ho]; · iexact Ho
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hs00]; · iexact Hs00
    isplitl [Hs10]; · iexact Hs10
    isplitl [Hs01]; · iexact Hs01
    isplitl [Hs11]; · iexact Hs11
    isplitl [Hs02]; · iexact Hs02
    isplitl [Hs12]; · iexact Hs12
    isplitl [Hs03]; · iexact Hs03
    isplitl [Hs13]; · iexact Hs13
    isplitl [Hs04]; · iexact Hs04
    isplitl [Hs14]; · iexact Hs14
    isplitl [Hs05]; · iexact Hs05
    isplitl [Hs15]; · iexact Hs15
    isplitl [Hs06]; · iexact Hs06
    isplitl [Hs16]; · iexact Hs16
    isplitl [HcB]; · iexact HcB
    isplitl [HaB]; · iexact HaB
    isplitl [HX00]; · iexact HX00
    isplitl [HX10]; · iexact HX10
    isplitl [HX01]; · iexact HX01
    isplitl [HX11]; · iexact HX11
    isplitl [HX02]; · iexact HX02
    isplitl [HX12]; · iexact HX12
    isplitl [HX03]; · iexact HX03
    isplitl [HX13]; · iexact HX13
    isplitl [HX04]; · iexact HX04
    isplitl [HX14]; · iexact HX14
    isplitl [HX05]; · iexact HX05
    isplitl [HX15]; · iexact HX15
    isplitl [HX06]; · iexact HX06
    isplitl [HX16]; · iexact HX16
    isplitl [HA0]; · iexact HA0
    isplitl [HA1]; · iexact HA1
    isplitl [Hx]; · iexact Hx
    isplitl [Ht]; · iexact Ht
    isplitl [Hu]; · iexact Hu
    isplitl [Hw]; · iexact Hw
    iexact Hz
  iintro ⟨Ho, HaB, HX00, HX10, HX01, HX11, HX02, HX12, HX03, HX13, HX04, HX14, HX05, HX15, HX06, HX16, Hx, Ht, Hu, Hw, Hz, HS00, HS01, HS02, HS10, HS11, HS12, HS03, HS04, HS05, HS13, HS14, HS15, HS06, HA0, HS16, HA1⟩
  iapply (r_ldO' c 1 (out0 m c)) $$ Hz
  iintro %_ Hz
  iapply (r_stO' c (out0 m c)) $$ Hz
  iintro Hz
  iapply (WP_ret (F := F) c _)
  iapply Hk
  isplitl [Ho]; · iexact Ho
  isplitl [HaB]; · iexact HaB
  isplitl [HX00]; · iexact HX00
  isplitl [HX10]; · iexact HX10
  isplitl [HX01]; · iexact HX01
  isplitl [HX11]; · iexact HX11
  isplitl [HX02]; · iexact HX02
  isplitl [HX12]; · iexact HX12
  isplitl [HX03]; · iexact HX03
  isplitl [HX13]; · iexact HX13
  isplitl [HX04]; · iexact HX04
  isplitl [HX14]; · iexact HX14
  isplitl [HX05]; · iexact HX05
  isplitl [HX15]; · iexact HX15
  isplitl [HX06]; · iexact HX06
  isplitl [HX16]; · iexact HX16
  isplitl [Hx]; · iexact Hx
  isplitl [Ht]; · iexact Ht
  isplitl [Hu]; · iexact Hu
  isplitl [Hw]; · iexact Hw
  isplitl [Hz]; · iexact Hz
  isplitl [HS00]; · iexact HS00
  isplitl [HS01]; · iexact HS01
  isplitl [HS02]; · iexact HS02
  isplitl [HS10]; · iexact HS10
  isplitl [HS11]; · iexact HS11
  isplitl [HS12]; · iexact HS12
  isplitl [HS03]; · iexact HS03
  isplitl [HS04]; · iexact HS04
  isplitl [HS05]; · iexact HS05
  isplitl [HS13]; · iexact HS13
  isplitl [HS14]; · iexact HS14
  isplitl [HS15]; · iexact HS15
  isplitl [HS06]; · iexact HS06
  isplitl [HA0]; · iexact HA0
  isplitl [HS16]; · iexact HS16
  iexact HA1

end Cert.KernelProof
-- ==== Proof.Run.lean ====
/-
The two scratch buffers cut into the pieces that change hands, and the kernel's run from and to such families of pieces.
-/
module

public import proofs.«01_k».proof.Proof.Body
public import Idealize.ShloMosaic.Lib.Ring

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families of pieces -/

/-- The exchanges: a chunk and a partner. -/
abbrev QJ : Type := Fin 2 × Fin 7

theorem bigSep_qj (Φ : QJ → sProp 𝕄) : bigSep Finset.univ Φ = iprop(Φ (0, 0) ∗ Φ (0, 1) ∗ Φ (0, 2) ∗ Φ (0, 3) ∗ Φ (0, 4) ∗ Φ (0, 5) ∗ Φ (0, 6) ∗ Φ (1, 0) ∗ Φ (1, 1) ∗ Φ (1, 2) ∗ Φ (1, 3) ∗ Φ (1, 4) ∗ Φ (1, 5) ∗ Φ (1, 6)) :=
  bigSep_univ_eq_bigSepL [(0, 0), (0, 1), (0, 2), (0, 3), (0, 4), (0, 5), (0, 6), (1, 0), (1, 1), (1, 2), (1, 3), (1, 4), (1, 5), (1, 6)] (by decide) (by decide) Φ

section Pieces

variable {ℓ : Loc nD τ sig} {B : Type} [Fintype B] [DecidableEq B] (I : B → Finset (Idx ℓ)) (hd : ∀ b b', b ≠ b' → Disjoint (I b) (I b'))

theorem piece_any (S : Finset (Idx ℓ)) (f : Buf (Elt F) ℓ) : (ℓ ↦[S]{fullShare} f : sProp 𝕄) ⊢ iprop(∃ f : Buf (Elt F) ℓ, ℓ ↦[S]{fullShare} f) := by
  iintro H
  iexists f
  iexact H

include hd in
/-- A whole buffer is a family of disjoint pieces of it and the rest of it. -/
theorem pieces_split : (iprop(∃ f : Buf (Elt F) ℓ, ℓ ↦{fullShare} f) : sProp 𝕄)
    ⊢ iprop((bigSep Finset.univ fun b => iprop(∃ f : Buf (Elt F) ℓ, ℓ ↦[I b]{fullShare} f)) ∗ ∃ f : Buf (Elt F) ℓ, ℓ ↦[Finset.univ \ Finset.univ.biUnion I]{fullShare} f) := by
  iintro ⟨%f, H⟩
  ihave H := (pointsTo_split_subset (f := f) (q := fullShare) (Finset.subset_univ (Finset.univ.biUnion I))).1 $$ H
  icases H with ⟨H, Hr⟩
  ihave H := (Entails.of_eq (Ring.pointsTo_sub_blocks I hd _ rfl f)) $$ H
  isplitl [H]
  · iapply (show (bigSep Finset.univ (fun b => ℓ ↦[I b]{fullShare} f) : sProp 𝕄) ⊢ bigSep Finset.univ (fun b => iprop(∃ f : Buf (Elt F) ℓ, ℓ ↦[I b]{fullShare} f)) from
      bigSep_mono fun b _ => piece_any (I b) f)
    iexact H
  · iexists f
    iexact Hr

include hd in
/-- And back. -/
theorem pieces_join (f₀ : Buf (Elt F) ℓ) :
    (iprop((bigSep Finset.univ fun b => iprop(∃ f : Buf (Elt F) ℓ, ℓ ↦[I b]{fullShare} f)) ∗ ∃ f : Buf (Elt F) ℓ, ℓ ↦[Finset.univ \ Finset.univ.biUnion I]{fullShare} f) : sProp 𝕄)
    ⊢ iprop(∃ f : Buf (Elt F) ℓ, ℓ ↦{fullShare} f) := by
  iintro ⟨H, ⟨%g, Hr⟩⟩
  ihave H := (Ring.pointsTo_sub_blocks_join_exists I hd _ rfl f₀) $$ H
  icases H with ⟨%f, H⟩
  iexists _
  iapply (pointsTo_join_subset (q := fullShare) (f := g) (g := f) (Finset.subset_univ (Finset.univ.biUnion I)))
  isplitl [H]; · iexact H
  iexact Hr

end Pieces

/-- The elements of a piece of the statistics, of the landing buffer. -/
abbrev accSet (q : Fin 2) : Finset S2x2x4x512.Idx := (accM q).view.set
abbrev slotSet (p : QJ) : Finset S2x3x3x2x4x512.Idx := (slotM p.1 p.2).view.set

theorem acc_disj (q q' : Fin 2) (h : q ≠ q') : Disjoint (accSet q) (accSet q') := by
  rw [Finset.disjoint_left]
  intro i h1 h2
  obtain ⟨x, -, rfl⟩ := Finset.mem_map.mp h1
  obtain ⟨y, -, e⟩ := Finset.mem_map.mp h2
  have e0 : q'.val + 1 * (_ : Fin 1).val = q.val + 1 * (_ : Fin 1).val := congrArg (fun z : S2x2x4x512.Idx => (z 0).val) e
  exact h (Fin.ext (by omega))

theorem slot_disj (p p' : QJ) (h : p ≠ p') : Disjoint (slotSet p) (slotSet p') := by
  rw [Finset.disjoint_left]
  intro i h1 h2
  obtain ⟨x, -, rfl⟩ := Finset.mem_map.mp h1
  obtain ⟨y, -, e⟩ := Finset.mem_map.mp h2
  have e0 : p'.1.val + 1 * (_ : Fin 1).val = p.1.val + 1 * (_ : Fin 1).val := congrArg (fun z : S2x3x3x2x4x512.Idx => (z 0).val) e
  have e1 : p'.2.val / 3 + 1 * (_ : Fin 1).val = p.2.val / 3 + 1 * (_ : Fin 1).val := congrArg (fun z : S2x3x3x2x4x512.Idx => (z 1).val) e
  have e2 : p'.2.val % 3 + 1 * (_ : Fin 1).val = p.2.val % 3 + 1 * (_ : Fin 1).val := congrArg (fun z : S2x3x3x2x4x512.Idx => (z 2).val) e
  exact h (Prod.ext (Fin.ext (by omega)) (Fin.ext (by omega)))

/-- What of the two scratch buffers no copy ever touches. -/
def accRest (c : Dev nD) : sProp 𝕄 :=
  iprop(∃ f : (cc0_scratch0 : Ref sig .tc).ty.Contents (Elt F), ((c : Thread nD τ).loc cc0_scratch0) ↦[Finset.univ \ Finset.univ.biUnion accSet]{fullShare} f)
def slotRest (c : Dev nD) : sProp 𝕄 :=
  iprop(∃ f : (cc0_scratch1 : Ref sig .tc).ty.Contents (Elt F), ((c : Thread nD τ).loc cc0_scratch1) ↦[Finset.univ \ Finset.univ.biUnion slotSet]{fullShare} f)
def scratchA (c : Dev nD) : sProp 𝕄 := iprop(∃ f : Buf (Elt F) ((c : Thread nD τ).loc cc0_scratch0), ((c : Thread nD τ).loc cc0_scratch0) ↦{fullShare} f)
def scratchB (c : Dev nD) : sProp 𝕄 := iprop(∃ f : Buf (Elt F) ((c : Thread nD τ).loc cc0_scratch1), ((c : Thread nD τ).loc cc0_scratch1) ↦{fullShare} f)

theorem bigSep_two (Φ : Fin 2 → sProp 𝕄) : bigSep Finset.univ Φ = iprop(Φ 0 ∗ Φ 1) := bigSep_univ_eq_bigSepL [0, 1] (by decide) (by decide) Φ

theorem acc_cut (c : Dev nD) : (scratchA c : sProp 𝕄) ⊢ iprop((accAny c 0 ∗ accAny c 1) ∗ accRest c) :=
  (pieces_split (ℓ := (c : Thread nD τ).loc cc0_scratch0) accSet acc_disj).trans (sep_mono_left (Entails.of_eq (bigSep_two _)))
theorem acc_uncut (c : Dev nD) : (iprop((accAny c 0 ∗ accAny c 1) ∗ accRest c) : sProp 𝕄) ⊢ scratchA c :=
  (sep_mono_left (Entails.of_eq (bigSep_two (fun q => accAny c q)).symm)).trans
    (pieces_join (ℓ := (c : Thread nD τ).loc cc0_scratch0) accSet acc_disj (fun _ => default))
theorem slot_cut (c : Dev nD) : (scratchB c : sProp 𝕄) ⊢ iprop((bigSep Finset.univ fun p : QJ => slotAny c p.1 p.2) ∗ slotRest c) :=
  pieces_split (ℓ := (c : Thread nD τ).loc cc0_scratch1) slotSet slot_disj
theorem slot_uncut (c : Dev nD) : (iprop((bigSep Finset.univ fun p : QJ => slotAny c p.1 p.2) ∗ slotRest c) : sProp 𝕄) ⊢ scratchB c :=
  pieces_join (ℓ := (c : Thread nD τ).loc cc0_scratch1) slotSet slot_disj (fun _ => default)

/-- Forgetting what a piece holds. -/
theorem acc_forget (c : Dev nD) (q : Fin 2) (t : Stats F) : (accPts c q fullShare t : sProp 𝕄) ⊢ accAny c q := by
  unfold accPts accAny
  iintro H
  iexists _
  iexact H
theorem slot_forget (c : Dev nD) (q : Fin 2) (j : Fin 7) (t : Stats F) : (slotPts c q j t : sProp 𝕄) ⊢ slotAny c q j := by
  unfold slotPts slotAny
  iintro H
  iexists _
  iexact H

/-! ## The run -/

variable (m : (ℓ : Loc nD τ sig) → Buf (Elt F) ℓ) (K : Dev nD × CK → ℕ)

/-- What a device holds of the exchange before the kernel, and after. -/
def before (c : Dev nD) : sProp 𝕄 :=
  iprop(ow c 0 ∗ (bigSep Finset.univ fun j : Fin 7 => btok c j) ∗ (bigSep Finset.univ fun p : QJ => slotAny c p.1 p.2) ∗ cred (tallyAt (barCell c) () 7) ∗ atPos ER (barCell c) 0 ∅ 0
    ∗ (bigSep Finset.univ fun p : QJ => X0 c p.1 p.2) ∗ accAny c 0 ∗ accAny c 1)
def after (c : Dev nD) : sProp 𝕄 :=
  iprop(ow c 21 ∗ (bigSep Finset.univ fun p : QJ => slotAny c p.1 p.2) ∗ atPos ER (barCell c) 1 ∅ 0
    ∗ (bigSep Finset.univ fun p : QJ => X3 c p.1 p.2) ∗ accAny c 0 ∗ accAny c 1)

set_option maxHeartbeats 1000000 in
/-- The kernel on device `c`. -/
theorem run (c : Dev nD) {Kt : PUnit → sProp 𝕄} :
    iprop(env m K ∗ before c ∗ xPts m c ∗ tPts m c ∗ uPts m c ∗ wPts m c ∗ oAny c)
      ⊢ iprop(((after c ∗ xPts m c ∗ tPts m c ∗ uPts m c ∗ wPts m c ∗ oPts c (out0 m c) (out1 m c)) -∗ Kt ⟨⟩) -∗ WP c (cc0_body xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3) Kt) := by
  unfold before
  rw [bigSep_fin7, bigSep_qj, bigSep_qj]
  iintro ⟨#HE, ⟨Ho, ⟨Hb0, Hb1, Hb2, Hb3, Hb4, Hb5, Hb6⟩, ⟨Hs00, Hs01, Hs02, Hs03, Hs04, Hs05, Hs06, Hs10, Hs11, Hs12, Hs13, Hs14, Hs15, Hs16⟩, HcB, HaB, ⟨HX00, HX01, HX02, HX03, HX04, HX05, HX06, HX10, HX11, HX12, HX13, HX14, HX15, HX16⟩, HA0, HA1⟩, Hx, Ht, Hu, Hw, Hz⟩ Hk
  iapply (body_run m K c) $$ [Ho Hb0 Hb1 Hb2 Hb3 Hb4 Hb5 Hb6 Hs00 Hs10 Hs01 Hs11 Hs02 Hs12 Hs03 Hs13 Hs04 Hs14 Hs05 Hs15 Hs06 Hs16 HcB HaB HX00 HX10 HX01 HX11 HX02 HX12 HX03 HX13 HX04 HX14 HX05 HX15 HX06 HX16 HA0 HA1 Hx Ht Hu Hw Hz]
  · isplitr; · iexact HE
    isplitl [Ho]; · iexact Ho
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hs00]; · iexact Hs00
    isplitl [Hs10]; · iexact Hs10
    isplitl [Hs01]; · iexact Hs01
    isplitl [Hs11]; · iexact Hs11
    isplitl [Hs02]; · iexact Hs02
    isplitl [Hs12]; · iexact Hs12
    isplitl [Hs03]; · iexact Hs03
    isplitl [Hs13]; · iexact Hs13
    isplitl [Hs04]; · iexact Hs04
    isplitl [Hs14]; · iexact Hs14
    isplitl [Hs05]; · iexact Hs05
    isplitl [Hs15]; · iexact Hs15
    isplitl [Hs06]; · iexact Hs06
    isplitl [Hs16]; · iexact Hs16
    isplitl [HcB]; · iexact HcB
    isplitl [HaB]; · iexact HaB
    isplitl [HX00]; · iexact HX00
    isplitl [HX10]; · iexact HX10
    isplitl [HX01]; · iexact HX01
    isplitl [HX11]; · iexact HX11
    isplitl [HX02]; · iexact HX02
    isplitl [HX12]; · iexact HX12
    isplitl [HX03]; · iexact HX03
    isplitl [HX13]; · iexact HX13
    isplitl [HX04]; · iexact HX04
    isplitl [HX14]; · iexact HX14
    isplitl [HX05]; · iexact HX05
    isplitl [HX15]; · iexact HX15
    isplitl [HX06]; · iexact HX06
    isplitl [HX16]; · iexact HX16
    isplitl [HA0]; · iexact HA0
    isplitl [HA1]; · iexact HA1
    isplitl [Hx]; · iexact Hx
    isplitl [Ht]; · iexact Ht
    isplitl [Hu]; · iexact Hu
    isplitl [Hw]; · iexact Hw
    iexact Hz
  iintro ⟨Ho, HaB, HX00, HX10, HX01, HX11, HX02, HX12, HX03, HX13, HX04, HX14, HX05, HX15, HX06, HX16, Hx, Ht, Hu, Hw, Hz, HS00, HS01, HS02, HS10, HS11, HS12, HS03, HS04, HS05, HS13, HS14, HS15, HS06, HA0, HS16, HA1⟩
  iapply Hk
  unfold after
  rw [bigSep_qj, bigSep_qj]
  isplitl [Ho HaB HA0 HA1 HS00 HS01 HS02 HS03 HS04 HS05 HS06 HS10 HS11 HS12 HS13 HS14 HS15 HS16 HX00 HX01 HX02 HX03 HX04 HX05 HX06 HX10 HX11 HX12 HX13 HX14 HX15 HX16]
  · isplitl [Ho]; · iexact Ho
    isplitl [HS00 HS01 HS02 HS03 HS04 HS05 HS06 HS10 HS11 HS12 HS13 HS14 HS15 HS16]
    · isplitl [HS00]; · iapply (slot_forget c 0 0 _); iexact HS00
      isplitl [HS01]; · iapply (slot_forget c 0 1 _); iexact HS01
      isplitl [HS02]; · iapply (slot_forget c 0 2 _); iexact HS02
      isplitl [HS03]; · iapply (slot_forget c 0 3 _); iexact HS03
      isplitl [HS04]; · iapply (slot_forget c 0 4 _); iexact HS04
      isplitl [HS05]; · iapply (slot_forget c 0 5 _); iexact HS05
      isplitl [HS06]; · iapply (slot_forget c 0 6 _); iexact HS06
      isplitl [HS10]; · iapply (slot_forget c 1 0 _); iexact HS10
      isplitl [HS11]; · iapply (slot_forget c 1 1 _); iexact HS11
      isplitl [HS12]; · iapply (slot_forget c 1 2 _); iexact HS12
      isplitl [HS13]; · iapply (slot_forget c 1 3 _); iexact HS13
      isplitl [HS14]; · iapply (slot_forget c 1 4 _); iexact HS14
      isplitl [HS15]; · iapply (slot_forget c 1 5 _); iexact HS15
      iapply (slot_forget c 1 6 _); iexact HS16
    isplitl [HaB]; · iexact HaB
    isplitl [HX00 HX01 HX02 HX03 HX04 HX05 HX06 HX10 HX11 HX12 HX13 HX14 HX15 HX16]
    · isplitl [HX00]; · iexact HX00
      isplitl [HX01]; · iexact HX01
      isplitl [HX02]; · iexact HX02
      isplitl [HX03]; · iexact HX03
      isplitl [HX04]; · iexact HX04
      isplitl [HX05]; · iexact HX05
      isplitl [HX06]; · iexact HX06
      isplitl [HX10]; · iexact HX10
      isplitl [HX11]; · iexact HX11
      isplitl [HX12]; · iexact HX12
      isplitl [HX13]; · iexact HX13
      isplitl [HX14]; · iexact HX14
      isplitl [HX15]; · iexact HX15
      iexact HX16
    isplitl [HA0]; · iapply (acc_forget c 0 _); iexact HA0
    iapply (acc_forget c 1 _); iexact HA1
  isplitl [Hx]; · iexact Hx
  isplitl [Ht]; · iexact Ht
  isplitl [Hu]; · iexact Hu
  isplitl [Hw]; · iexact Hw
  iexact Hz

end Cert.KernelProof
-- ==== Proof.Launch.lean ====
/-
The launch: the semaphore cells and tokens dealt to the devices, the staged blocks, and the whole run — what every
device's arrays hold at the end, with every semaphore back at zero.
-/
module

public import proofs.«01_k».proof.Proof.Run
public import proofs.«01_k».proof.Proof.Gen.KernelIdeal.Launch
public import proofs.«01_k».proof.Proof.Gen.KernelIdeal.Points
public import Idealize.ShloMosaic.Lib.Pipeline.Launch
public import Idealize.ShloMosaic.Lib.Pipeline.CollectiveSegs

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the kernel starts from and ends with -/

/-- The result's block on device `c`. -/
def outAt (c : Dev nD) : (cc0_stg4_0 : Ref sig .tc).ty.Contents (Elt F) := outBuf (out0 m c) (out1 m c)

/-- Tokens and positions of device `c`. -/
def payToks (c : Dev nD) : sProp 𝕄 :=
  iprop((bigSep Finset.univ fun d : Fin 7 => dutyTok ER (barCell (peer c d)) 0 d)
    ∗ (bigSep Finset.univ fun p : QJ => dutyTok ER (sendCell c p.1 p.2) 0 0)
    ∗ bigSep Finset.univ fun p : QJ => dutyTok ER (recvCell (peer c p.2) p.1 p.2) 0 0)
def positions (c : Dev nD) : sProp 𝕄 := bigSep Finset.univ fun k : CK => atPos ER (kcell (c, k)) 0 ∅ 0
def ghost (K : Dev nD × CK → ℕ) (c : Dev nD) : sProp 𝕄 := iprop(records m K ∗ positions c ∗ payToks c)
def G' (c : Dev nD) : sProp 𝕄 := iprop(∃ K, ghost m K c)
def creds (c : Dev nD) : sProp 𝕄 := iprop(cred (tallyAt (barCell c) () 7) ∗ bigSep Finset.univ fun p : QJ => cred (tallyAt (recvCell c p.1 p.2) () N))
def start (c : Dev nD) : sProp 𝕄 := iprop(G' m c ∗ creds c ∗ levAts L lv)

def Φ₀ (c : Dev nD) : sProp 𝕄 := iprop(start m c ∗ scratchA c ∗ scratchB c)
def Φ₁ (c : Dev nD) : sProp 𝕄 := iprop(semVal (barCell c) 0 ∗ (bigSep Finset.univ fun k : OK => semVal ((c : Thread nD τ), osem k) 0) ∗ scratchA c ∗ scratchB c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => tstg m c
    | ⟨2, _⟩ => ustg m c
    | ⟨3, _⟩ => wstg m c
    | ⟨4, _⟩ => outAt m c
  Φ t := match t with
    | ⟨0, _⟩ => Φ₀ m c
    | ⟨_ + 1, _⟩ => Φ₁ c
  q _ := fullShare
  owed t := match t with
    | ⟨0, _⟩ => Ow c 0
    | ⟨_ + 1, _⟩ => 0

theorem bigSep_ck (Φ : CK → sProp 𝕄) : bigSep Finset.univ Φ
    = iprop(Φ (.inl ()) ∗ (bigSep Finset.univ fun p : QJ => Φ (.inr (.inl p))) ∗ (bigSep Finset.univ fun p : QJ => Φ (.inr (.inr (.inl p))))
        ∗ bigSep Finset.univ fun i : Fin 8 => Φ (.inr (.inr (.inr i)))) := by
  rw [bigSep_univ_sum, bigSep_univ_sum, bigSep_univ_sum, Finset.univ_unique, bigSep_singleton]
  rfl

theorem bigSep_ok (Φ : OK → sProp 𝕄) : bigSep Finset.univ Φ
    = iprop((bigSep Finset.univ fun p : QJ => Φ (.inl p)) ∗ (bigSep Finset.univ fun p : QJ => Φ (.inr (.inl p))) ∗ bigSep Finset.univ fun i : Fin 8 => Φ (.inr (.inr i))) := by
  rw [bigSep_univ_sum, bigSep_univ_sum]
  rfl

theorem role_idle (i : Fin 8) : roleOf (.dma (idle i)) = .inr (.inr (.inr ())) := by
  show roleNum (idle i).val = _
  revert i; decide

section Close
variable (K : Dev nD × CK → ℕ)

/-- A cell of which no round remains is closed, its counter at zero. -/
theorem close (ck : Dev nD × CK) (R : ℕ) (hR : ∀ r, R ≤ r → (Rd (F := F) m).duties (kcell ck) r = ∅) :
    iprop(env m K ∗ atPos ER (kcell ck) R ∅ 0) ⊢ (|={Set.univ}=> semVal (kcell ck) 0 : sProp 𝕄) := by
  iintro ⟨#HE, Ha⟩
  iapply (Rounds.cell_close ER (Rd m) (Set.mem_univ (K ck)) (fun h => h) hR)
  isplitr
  · iapply (env_inv m K ck); iexact HE
  iexact Ha

theorem with_persistent {I : Type} {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  classical
  exact (sep_mono_left (BI.bigSep_of_persistent S R)).trans (by rw [← bigSep_sep']; exact bigSep_mono h)

theorem close_x (c : Dev nD) (p : QJ) : iprop(env m K ∗ X3 c p.1 p.2) ⊢ (|={Set.univ}=> iprop(semVal (sendCell c p.1 p.2) 0 ∗ semVal (recvCell c p.1 p.2) 0) : sProp 𝕄) := by
  unfold X3
  iintro ⟨#HE, HS, HR⟩
  imod (close m K (c, .inr (.inl p)) 1 (duties_later m _)) $$ [HS] with H1
  · isplitr; · iexact HE
    iexact HS
  imod (close m K (c, .inr (.inr (.inl p))) 1 (duties_later m _)) $$ [HR] with H2
  · isplitr; · iexact HE
    iexact HR
  imodintro
  isplitl [H1]; · iexact H1
  iexact H2

theorem duties_idle (c : Dev nD) (i : Fin 8) (r : ℕ) : (Rd (F := F) m).duties (kcell (c, .inr (.inr (.inr i)))) r = ∅ := by
  show (if r = 0 ∧ _ then dutiesOf (roleOf (.dma (idle i))) else ∅) = ∅
  rw [role_idle]
  split <;> rfl

theorem close_all (c : Dev nD) :
    iprop(env m K ∗ atPos ER (barCell c) 1 ∅ 0 ∗ (bigSep Finset.univ fun p : QJ => X3 c p.1 p.2) ∗ bigSep Finset.univ fun i : Fin 8 => atPos ER (kcell (c, .inr (.inr (.inr i)))) 0 ∅ 0)
      ⊢ (|={Set.univ}=> iprop(semVal (barCell c) 0 ∗ bigSep Finset.univ fun k : OK => semVal ((c : Thread nD τ), osem k) 0) : sProp 𝕄) := by
  iintro ⟨#HE, HB, HX, HI⟩
  imod (close m K (c, .inl ()) 1 (duties_later m _)) $$ [HB] with HB
  · isplitr; · iexact HE
    iexact HB
  imod ((with_persistent (fun p _ => close_x m K c p)).trans (bigSep_fupd Finset.univ fun p : QJ => (iprop(semVal (sendCell c p.1 p.2) 0 ∗ semVal (recvCell c p.1 p.2) 0) : sProp 𝕄))) $$ [HX] with HX
  · isplitr; · iexact HE
    iexact HX
  imod ((with_persistent (fun i _ => close m K (c, .inr (.inr (.inr i))) 0 (fun r _ => duties_idle m c i r))).trans
    (bigSep_fupd Finset.univ fun i : Fin 8 => (semVal (kcell (c, .inr (.inr (.inr i)))) 0 : sProp 𝕄))) $$ [HI] with HI
  · isplitr; · iexact HE
    iexact HI
  imodintro
  isplitl [HB]; · iexact HB
  ihave HX := (Entails.of_eq (bigSep_sep' Finset.univ (fun p : QJ => (semVal (sendCell c p.1 p.2) 0 : sProp 𝕄)) (fun p : QJ => semVal (recvCell c p.1 p.2) 0))) $$ HX
  icases HX with ⟨H1, H2⟩
  rw [bigSep_ok]
  isplitl [H1]; · iexact H1
  isplitl [H2]; · iexact H2
  iexact HI

end Close

/-! ## The body -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
def bodyPost (c : Dev nD) : sProp 𝕄 :=
  iprop(Φ₁ c ∗ (dats m ρ 0 c).owesAt () t0_0.succ ∗ stg c cc0_stg0_0 (xstg m c) ∗ stg c cc0_stg1_0 (tstg m c) ∗ stg c cc0_stg2_0 (ustg m c) ∗ stg c cc0_stg3_0 (wstg m c)
    ∗ stg c cc0_stg4_0 (outAt m c))

theorem before_x (c : Dev nD) (d) : (dats m ρ 0 c).before (0 : Fin 5) t0_0 d = xstg m c := by unfold Dat.before; rw [if_pos (fetch0_0 t0_0)]; rfl
theorem before_t (c : Dev nD) (d) : (dats m ρ 0 c).before (1 : Fin 5) t0_0 d = tstg m c := by unfold Dat.before; rw [if_pos (fetch0_1 t0_0)]; rfl
theorem before_u (c : Dev nD) (d) : (dats m ρ 0 c).before (2 : Fin 5) t0_0 d = ustg m c := by unfold Dat.before; rw [if_pos (fetch0_2 t0_0)]; rfl
theorem before_w (c : Dev nD) (d) : (dats m ρ 0 c).before (3 : Fin 5) t0_0 d = wstg m c := by unfold Dat.before; rw [if_pos (fetch0_3 t0_0)]; rfl

/-- The exchanges not begun, from their tokens, positions and credit. -/
theorem x0_intro (c : Dev nD) :
    (iprop((bigSep Finset.univ fun p : QJ => dutyTok ER (sendCell c p.1 p.2) 0 0) ∗ (bigSep Finset.univ fun p : QJ => dutyTok ER (recvCell (peer c p.2) p.1 p.2) 0 0)
      ∗ (bigSep Finset.univ fun p : QJ => atPos ER (sendCell c p.1 p.2) 0 ∅ 0) ∗ (bigSep Finset.univ fun p : QJ => atPos ER (recvCell c p.1 p.2) 0 ∅ 0)
      ∗ (bigSep Finset.univ fun p : QJ => cred (tallyAt (recvCell c p.1 p.2) () N))) : sProp 𝕄)
      ⊢ bigSep Finset.univ fun p : QJ => X0 c p.1 p.2 := by
  unfold X0
  rw [bigSep_sep', bigSep_sep', bigSep_sep', bigSep_sep']

set_option maxHeartbeats 1000000 in
theorem sound_body (c : Dev nD) :
    bodyPre m ρ c ⊢ WP c (cc0_body xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3)
      (fun _ => bodyPost m ρ c) := by
  unfold bodyPre Φ₀ start G' ghost creds positions payToks
  rw [bigSep_ck]
  iintro ⟨⟨⟨⟨%K, #HR, ⟨HaB, HaS, HaR, HaI⟩, HtB, HtS, HtR⟩, ⟨HcB, HcR⟩, #HL⟩, HA, HS⟩, Ho, ⟨%d0, %g0, %hg0, Hx⟩, ⟨%d1, %g1, %hg1, Ht⟩, ⟨%d2, %g2, %hg2, Hu⟩, ⟨%d3, %g3, %hg3, Hw⟩, ⟨%d4, %g4, %hg4, Hz⟩⟩
  obtain rfl : g0 = xstg m c := hg0.trans (before_x m ρ c d0)
  obtain rfl : g1 = tstg m c := hg1.trans (before_t m ρ c d1)
  obtain rfl : g2 = ustg m c := hg2.trans (before_u m ρ c d2)
  obtain rfl : g3 = wstg m c := hg3.trans (before_w m ρ c d3)
  unfold Dat.owesAt Pipeline.owesWithin
  icases Ho with ⟨%W, %hW, HO⟩
  ihave HA := (acc_cut (F := F) c) $$ HA
  icases HA with ⟨⟨HA0, HA1⟩, HAr⟩
  ihave HS := (slot_cut (F := F) c) $$ HS
  icases HS with ⟨HS, HSr⟩
  ihave HX := (x0_intro (F := F) c) $$ [HtS HtR HaS HaR HcR]
  · isplitl [HtS]; · iexact HtS
    isplitl [HtR]; · iexact HtR
    isplitl [HaS]; · iexact HaS
    isplitl [HaR]; · iexact HaR
    iexact HcR
  have hE : (iprop(records m K ∗ levAts L lv) : sProp 𝕄) ⊢ env m K := by unfold env; exact BI.Entails.refl _
  ihave #HE := hE $$ []
  · isplitr; · iexact HR
    iexact HL
  iapply (wp_fupd)
  iapply (run m K c) $$ [HO HtB HS HcB HaB HX HA0 HA1 Hx Ht Hu Hw Hz]
  · isplitr; · iexact HE
    isplitl [HO HtB HS HcB HaB HX HA0 HA1]
    · unfold before
      isplitl [HO]; · unfold ow; iexists W; iexact HO
      isplitl [HtB]; · iexact HtB
      isplitl [HS]; · iexact HS
      isplitl [HcB]; · iexact HcB
      isplitl [HaB]; · iexact HaB
      isplitl [HX]; · iexact HX
      isplitl [HA0]; · iexact HA0
      iexact HA1
    isplitl [Hx]; · unfold xPts; iexact Hx
    isplitl [Ht]; · unfold tPts; iexact Ht
    isplitl [Hu]; · unfold uPts; iexact Hu
    isplitl [Hw]; · unfold wPts; iexact Hw
    unfold oAny; iexists g4; iexact Hz
  unfold after
  iintro ⟨⟨Ho, HS, HaB, HX, HA0, HA1⟩, Hx, Ht, Hu, Hw, Hz⟩
  imod (close_all m K c) $$ [HaB HX HaI] with ⟨HB, HO⟩
  · isplitr; · iexact HE
    isplitl [HaB]; · iexact HaB
    isplitl [HX]; · iexact HX
    iexact HaI
  imodintro
  unfold bodyPost Φ₁ Dat.owesAt Pipeline.owesWithin
  isplitl [HB HO HA0 HA1 HAr HS HSr]
  · isplitl [HB]; · iexact HB
    isplitl [HO]; · iexact HO
    isplitl [HA0 HA1 HAr]
    · iapply (acc_uncut (F := F) c)
      isplitl [HA0 HA1]
      · isplitl [HA0]; · iexact HA0
        iexact HA1
      iexact HAr
    iapply (slot_uncut (F := F) c)
    isplitl [HS]; · iexact HS
    iexact HSr
  isplitl [Ho]
  · unfold ow
    icases Ho with ⟨%W', Ho⟩
    iexists W'
    isplitr; · ipureintro; exact fun _ _ => Or.inl trivial
    iexact Ho
  isplitl [Hx]
  · iexists _; isplitr; · (ipureintro; rfl)
    unfold xPts; iexact Hx
  isplitl [Ht]
  · iexists _; isplitr; · (ipureintro; rfl)
    unfold tPts; iexact Ht
  isplitl [Hu]
  · iexists _; isplitr; · (ipureintro; rfl)
    unfold uPts; iexact Hu
  isplitl [Hw]
  · iexists _; isplitr; · (ipureintro; rfl)
    unfold wPts; iexact Hw
  iexists _; isplitr; · (ipureintro; rfl)
  unfold oPts; iexact Hz

set_option maxRecDepth 20000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ WP c (cc0_body xM (Memref.isWhole_whole _) tM (Memref.isWhole_whole _) uM (Memref.isWhole_whole _) wM (Memref.isWhole_whole _) oM (Memref.isWhole_whole _) aM (Memref.isWhole_whole _) rM (Memref.isWhole_whole _) cc0_scratch2 cc0_scratch3)
    (fun _ => bodyPost m ρ c)
  exact sound_body m ρ c

/-! ## Dealing the cells and tokens -/

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by decide +kernel
theorem kcell_injective : Function.Injective (kcell : Dev nD × CK → GSem nD τ sig) := by
  rintro ⟨c, k⟩ ⟨c', k'⟩ h
  obtain rfl : c = c' := congrArg (fun g : GSem nD τ sig => g.1.1) h
  obtain rfl : k = k' := csem_injective (congrArg Prod.snd h)
  rfl
def allCells : Finset (GSem nD τ sig) := Finset.univ.map ⟨kcell, kcell_injective⟩

/-- The tokens of a device's own cells: seven of its barrier, one of each send and receive. -/
abbrev TK : Type := Fin 7 ⊕ QJ ⊕ QJ
def tokSem : TK → SemLoc sig × Fin 7
  | .inl d => (.reg barS, d)
  | .inr (.inl p) => (.dma (sendS p.1 p.2), 0)
  | .inr (.inr p) => (.dma (recvS p.1 p.2), 0)
theorem tokSem_injective : Function.Injective tokSem := by decide +kernel
def tokOf (ct : Dev nD × TK) : GSem nD τ sig × ℕ × Fin 7 := (((ct.1 : Thread nD τ), (tokSem ct.2).1), 0, (tokSem ct.2).2)
theorem tokOf_injective : Function.Injective tokOf := by
  rintro ⟨c, t⟩ ⟨c', t'⟩ h
  obtain rfl : c = c' := congrArg (fun x : GSem nD τ sig × ℕ × Fin 7 => x.1.1.1) h
  obtain rfl : t = t' := tokSem_injective (congrArg (fun x : GSem nD τ sig × ℕ × Fin 7 => (x.1.2, x.2.2)) h)
  rfl
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

/-- The tokens of device `c`'s own cells. -/
def toks (c : Dev nD) : sProp 𝕄 :=
  iprop((bigSep Finset.univ fun d : Fin 7 => dutyTok ER (barCell c) 0 d) ∗ (bigSep Finset.univ fun p : QJ => dutyTok ER (sendCell c p.1 p.2) 0 0)
    ∗ bigSep Finset.univ fun p : QJ => dutyTok ER (recvCell c p.1 p.2) 0 0)

/-- What a device is dealt before the cells are set up. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

theorem bigSep_tk (Φ : TK → sProp 𝕄) : bigSep Finset.univ Φ
    = iprop((bigSep Finset.univ fun d : Fin 7 => Φ (.inl d)) ∗ (bigSep Finset.univ fun p : QJ => Φ (.inr (.inl p))) ∗ bigSep Finset.univ fun p : QJ => Φ (.inr (.inr p))) := by
  rw [bigSep_univ_sum, bigSep_univ_sum]
  rfl

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_tk]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_all (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_ck]
  unfold Pipeline.ownSems0
  rw [bigSep_ok]
  iintro ⟨⟨H1, H2, H3⟩, HB⟩
  isplitl [HB]; · iexact HB
  isplitl [H1]; · iexact H1
  isplitl [H2]; · iexact H2
  iexact H3

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems_all (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A barrier token goes to the partner that signals with it, a receive token to the partner that copies with it. -/
theorem toks_dealt : (bigSep Finset.univ fun c : Dev nD => (toks c : sProp 𝕄)) ⊢ bigSep Finset.univ fun c : Dev nD => payToks c := by
  unfold toks payToks
  rw [bigSep_sep', bigSep_sep', bigSep_sep', bigSep_sep']
  refine sep_mono ?_ (sep_mono_right ?_)
  · rw [bigSep_univ_comm, bigSep_univ_comm (fun (c : Dev nD) (d : Fin 7) => (dutyTok ER (barCell (peer c d)) 0 d : sProp 𝕄))]
    exact Entails.of_eq (bigSep_congr fun d _ => bigSep_univ_equiv (swap d) (fun c : Dev nD => (dutyTok ER (barCell c) 0 d : sProp 𝕄)))
  · rw [bigSep_univ_comm, bigSep_univ_comm (fun (c : Dev nD) (p : QJ) => (dutyTok ER (recvCell (peer c p.2) p.1 p.2) 0 0 : sProp 𝕄))]
    exact Entails.of_eq (bigSep_congr fun p _ => bigSep_univ_equiv (swap p.2) (fun c : Dev nD => (dutyTok ER (recvCell c p.1 p.2) 0 0 : sProp 𝕄)))

theorem ghost_intro (K : Dev nD × CK → ℕ) (c : Dev nD) : iprop(records m K ∗ positions c ∗ payToks c) ⊢ G' m c := by
  unfold G' ghost
  iintro H
  iexists K
  iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_dealt (F := F)) $$ Htok
  iapply (with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · unfold positions; iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- The partner by which a device makes a raise. -/
def via : Raise → Fin 7
  | .inl d => d
  | .inr p => p.2
/-- The semaphore a raise raises. -/
def rsem : Raise → SemLoc sig
  | .inl _ => .reg barS
  | .inr p => .dma (recvS p.1 p.2)
theorem rcell_eq (c : Dev nD) (s : Raise) : rcell c s = ((peer c (via s) : Thread nD τ), rsem s) := by rcases s with d | p <;> rfl

/-- What a raise of device `d` owes a cell of device `c`. -/
theorem one_raise (c d : Dev nD) (s : Raise) (sm : SemLoc sig) :
    tallyAt (rcell d s) () (ramt s) ((c : Thread nD τ), sm) () = if d = peer c (via s) then (if rsem s = sm then ramt s else 0) else 0 := by
  rw [tallyAt_apply, rcell_eq]
  by_cases hd : d = peer c (via s)
  · subst hd
    rw [peer_peer, if_pos rfl]
    by_cases hs : rsem s = sm
    · rw [if_pos ⟨by rw [hs], rfl⟩, if_pos hs]
    · rw [if_neg (fun h => hs (congrArg Prod.snd h.1).symm), if_neg hs]
  · refine (if_neg fun h => hd ?_).trans (if_neg hd).symm
    have h1 : c = peer d (via s) := congrArg (fun g : GSem nD τ sig => g.1.1) h.1
    rw [h1, peer_peer]

/-- The debts of all devices at one cell of device `c`: of each raise, that of one partner. -/
theorem debt_sum (c : Dev nD) (sm : SemLoc sig) (l : List Raise) :
    (∑ d : Dev nD, debt d l ((c : Thread nD τ), sm) ()) = (l.map fun s => if rsem s = sm then ramt s else 0).sum := by
  induction l with
  | nil => exact Finset.sum_const_zero
  | cons s l ih =>
    rw [List.map_cons, List.sum_cons, Nat.add_comm, ← ih]
    have h (d : Dev nD) : debt d (s :: l) ((c : Thread nD τ), sm) () = debt d l ((c : Thread nD τ), sm) () + if d = peer c (via s) then (if rsem s = sm then ramt s else 0) else 0 := by
      rw [debt, Pi.add_apply, Finsupp.add_apply, one_raise]
    rw [Finset.sum_congr rfl fun d _ => h d, Finset.sum_add_distrib, Finset.sum_ite_eq' Finset.univ (peer c (via s)), if_pos (Finset.mem_univ _)]

theorem owed_bar : (order.map fun s => if rsem s = .reg barS then ramt s else 0).sum = 7 := by decide +kernel
theorem owed_recv (p : QJ) : (order.map fun s => if rsem s = .dma (recvS p.1 p.2) then ramt s else 0).sum = N := by
  have h : ∀ p : QJ, (order.filter fun s => rsem s = .dma (recvS p.1 p.2)) = [.inr p] := by decide +kernel
  have h2 : ∀ (l : List Raise), (l.map fun s => if rsem s = .dma (recvS p.1 p.2) then ramt s else 0).sum = ((l.filter fun s => rsem s = .dma (recvS p.1 p.2)).map ramt).sum := by
    intro l
    induction l with
    | nil => rfl
    | cons s l ih =>
      rw [List.map_cons, List.sum_cons, ih, List.filter_cons]
      by_cases hs : rsem s = .dma (recvS p.1 p.2)
      · rw [if_pos hs, if_pos (decide_eq_true hs), List.map_cons, List.sum_cons]
      · rw [if_neg hs, if_neg (by simpa using hs), Nat.zero_add]
  rw [h2, h]
  rfl

theorem launch_at (c : Dev nD) (sm : SemLoc sig) (n : ℕ) (h : (order.map fun s => if rsem s = sm then ramt s else 0).sum = n) :
    tallyOn ((c : Thread nD τ), sm) (launchCredit (Pipeline.owing fun d => Ow d 0) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, ← h]
  exact debt_sum c sm order

theorem creds_intro (c : Dev nD) : (Pipeline.launchCred (fun d => Ow d 0) c : sProp 𝕄) ⊢ creds c := by
  unfold Pipeline.launchCred creds
  rw [bigSep_univ_at _ (SemLoc.reg barS), launch_at c _ 7 owed_bar]
  refine sep_mono_right ?_
  have hinj : Function.Injective fun p : QJ => (SemLoc.dma (recvS p.1 p.2) : SemLoc sig) := by decide +kernel
  rw [show (bigSep Finset.univ fun p : QJ => (cred (tallyAt (recvCell c p.1 p.2) () N) : sProp 𝕄))
      = bigSep (Finset.univ.map ⟨_, hinj⟩) fun sm => cred (tallyOn ((c : Thread nD τ), sm) (launchCredit (Pipeline.owing fun d => Ow d 0) 0 ((c : Thread nD τ), sm))) from by
    rw [bigSep_map]
    exact bigSep_congr fun p _ => by rw [← launch_at c _ N (owed_recv p)]; rfl]
  refine bigSep_subset fun sm h => ?_
  obtain ⟨p, -, rfl⟩ := Finset.mem_map.mp h
  exact Finset.mem_erase.mpr ⟨(fun h => by cases h), Finset.mem_univ _⟩

/-! ## The run -/

theorem start_intro (c : Dev nD) :
    iprop(Pipeline.unscopedRestP Pipeline.Prefetch.none cfg0.spec c (fun b => m ((c : Thread nD τ).loc b)) ∗ levAts L lv
        ∗ Pipeline.launchCred (fun d => Ow d 0) c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratchA scratchB
  iintro ⟨Hs, -, HA, HB⟩
  isplitl [Hs]; · iexact Hs
  isplitl [HA]; · iexact HA
  iexact HB

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ Pipeline.ownSems0 scratchA scratchB
  exact BI.Entails.refl _

theorem stage_level : ∀ (w : Fin cfg0.W) (s : Fin (cfg0.spec w).nbuf), levOf (roleOf (.dma ((cfg0.spec w).sem s))) = 0 := by decide +kernel

theorem mayWait_stage (c : Dev nD) (sm : SemLoc sig) (h : levOf (roleOf sm) = 0) (O : CellTallies nD τ sig Unit) (hO : O = Ow c 0 ∨ O = 0) :
    (levAts L lv : sProp 𝕄) ⊢ MayWait (c : Thread nD τ) sm () O := by
  rcases hO with rfl | rfl
  · exact mayWait c sm 0 0 (le_of_eq h) (by decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_level w s) _ (by
      rcases t with ⟨_ | _, ht⟩
      · exact Or.inl rfl
      · exact Or.inr rfl)

/-- What window `w`'s array holds on device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every execution ends, with every device's arrays at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => Ow d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelProof
-- ==== Proof.Frames.lean ====
/-
What every device's arrays hold after a run of the kernel: its arguments as they were, its result as computed; and
the claims that say no more than that. The kernel as printed and the kernel over exact values are the same text, so
one run, proved for any float values, serves for both.
-/
module

public import proofs.«01_k».proof.Defs
public import proofs.«01_k».proof.Proof.Gen.Kernel
public import proofs.«01_k».proof.Proof.Gen.ReferenceIdeal.Run
public import proofs.«01_k».proof.Proof.Launch
public import Idealize.ShloMosaic.Lib.Pipeline.ValueKit

@[expose] public section

noncomputable section

namespace Cert.KernelProof

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

theorem finalA_0 (c : Dev nD) : finalA m ρ c (0 : Fin 5) = m ((c : Thread nD τ).loc main_arg0) := (dats m ρ 0 c).arrAt_in 0 rfl _
theorem finalA_1 (c : Dev nD) : finalA m ρ c (1 : Fin 5) = m ((c : Thread nD τ).loc main_arg1) := (dats m ρ 0 c).arrAt_in 1 rfl _
theorem finalA_2 (c : Dev nD) : finalA m ρ c (2 : Fin 5) = m ((c : Thread nD τ).loc main_arg2) := (dats m ρ 0 c).arrAt_in 2 rfl _
theorem finalA_3 (c : Dev nD) : finalA m ρ c (3 : Fin 5) = m ((c : Thread nD τ).loc main_arg3) := (dats m ρ 0 c).arrAt_in 3 rfl _

theorem whole4 : win0_4.WholeAt t0_0 := by unfold Pipeline.Window.WholeAt; decide +kernel

/-- The result array is the block that the kernel computed. -/
theorem finalA_4 (c : Dev nD) : finalA m ρ c (4 : Fin 5) = outAt m c := by
  funext i
  exact (dats m ρ 0 c).arrAt_emb_eq_after_last (4 : Fin 5) t0_0 whole4 i

/-- After a run the arguments are unchanged. -/
theorem args_unchanged {r : PUnit × MemSt nD τ sig (Elt F)} (h : QC m ρ r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨(h c (0 : Fin 5)).trans (finalA_0 m ρ c), (h c (1 : Fin 5)).trans (finalA_1 m ρ c), (h c (2 : Fin 5)).trans (finalA_2 m ρ c),
    (h c (3 : Fin 5)).trans (finalA_3 m ρ c)⟩

/-- After a run the result array holds the computed block. -/
theorem result_eq {r : PUnit × MemSt nD τ sig (Elt F)} (h : QC m ρ r) (c : Dev nD) :
    r.2.mem ((c : Thread nD τ).loc main_v1) = outAt m c := (h c (4 : Fin 5)).trans (finalA_4 m ρ c)

/-- The kernel over exact values: it runs, its arguments end unchanged, its counters end at zero. -/
theorem frame_kernelIdeal : Cert.quiescent_KernelIdeal := fun m ρ _ =>
  (θ_run Cert.KernelIdeal.defs _ _).mono (fun _ h => ⟨args_unchanged m ρ h.1, h.2⟩) (run_main (F := Ideal) m ρ)

theorem body_eq : Cert.Kernel.cc0_body (F := Bits) = Cert.KernelIdeal.cc0_body (F := Bits) := rfl
theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl
/-- The two programs have the same text. -/
theorem defs_eq : Cert.Kernel.defs (F := Bits) = Cert.KernelIdeal.defs (F := Bits) :=
  congrArg (Pipeline.defs Cert.KernelIdeal.pcfgs) defs₀_eq

/-- The kernel as printed, likewise. -/
theorem frame_kernel : Cert.quiescent_Kernel := by
  intro m ρ _
  have h : θ_run (Cert.KernelIdeal.defs (F := Bits)) (onTc (τ := τ) (main (F := Bits))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
    (θ_run Cert.KernelIdeal.defs _ _).mono (fun _ h => ⟨args_unchanged m ρ h.1, h.2⟩) (run_main (F := Bits) m ρ)
  show θ_run (Cert.Kernel.defs (F := Bits)) _ _ _
  rw [defs_eq]
  exact h

/-- The reference over exact values: it runs on one device, which declares no semaphore. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.KernelProof
-- ==== Proof.Element.lean ====
/-
The kernel's arithmetic over exact values, read at one element: the statistics rows of a chunk as sums over its
channels, and the normalised, scaled and shifted element.
-/
module

public import proofs.«01_k».proof.Proof.Contents
public import Idealize.ShloMosaic.Lib.Pointwise

@[expose] public section

noncomputable section

namespace Cert.KernelProof

open Cert.KernelIdeal Cert.KernelIdeal.Gen

open Idealize.ShloMosaic
open Idealize.ShloMosaic.Pointwise

/-- The first statistics row is the sum of the device's channels. -/
theorem pay3_apply (x : Vec Ideal S4x512x256 .bf16) (b : Fin 4) (t : Fin 512) :
    k0_pay3 (F := Ideal) x (ix4 (0 : Fin 1) (0 : Fin 1) b t) = ∑ k : Fin 256, x (ix3 b t k) := by
  pointwise [k0_pay3, k0_pay2]

/-- The second is the sum of their squares. -/
theorem pay4_apply (x : Vec Ideal S4x512x256 .bf16) (b : Fin 4) (t : Fin 512) :
    k0_pay4 (F := Ideal) x (ix4 (0 : Fin 1) (0 : Fin 1) b t) = ∑ k : Fin 256, x (ix3 b t k) * x (ix3 b t k) := by
  pointwise [k0_pay4, k0_pay2]

/-- One column of a product. -/
theorem pay8_apply (t : Vec Ideal S4x128 .bf16) (w : Vec Ideal S128x256 .bf16) (b : Fin 4) (l : Fin 256) :
    k0_pay8 (F := Ideal) t w (ix2 b l) = ∑ k : Fin 128, t (ix2 b k) * w (ix2 k l) := by
  pointwise [k0_pay8]

theorem pay9_apply (t : Vec Ideal S4x128 .bf16) (w : Vec Ideal S128x256 .bf16) (b : Fin 4) (l : Fin 256) :
    k0_pay9 (F := Ideal) t w (ix2 b l) = ∑ k : Fin 128, t (ix2 b k) * w (ix2 k l) := pay8_apply t w b l

/-- An element of the result, from the element `v` of `x`, the sums `a₀` and `a₁` of its row and of the row's squares,
and its column's scale and shift. -/
def outElt (v a₀ a₁ scale shift : EReal) : EReal :=
  (v - Ideal.div a₀ (Ideal.ofBits .f32 0x46000000#32))
      * Ideal.rsqrt (Ideal.div a₁ (Ideal.ofBits .f32 0x46000000#32)
          - Ideal.div a₀ (Ideal.ofBits .f32 0x46000000#32) * Ideal.div a₀ (Ideal.ofBits .f32 0x46000000#32)
          + Ideal.ofBits .f32 0x3727C5AC#32)
    * (Ideal.ofBits .f32 0x3F800000#32 + scale) + shift

/-- An element of the first chunk's result, and of the second's. -/
theorem pay19_apply (u w : FVec Ideal S4x256 .f32) (a₀ a₁ : Vec Ideal S1x1x4x512 .bf16) (x : Vec Ideal S4x512x256 .bf16)
    (b : Fin 4) (t : Fin 512) (l : Fin 256) :
    k0_pay19 (F := Ideal) u w (k0_pay18 a₀) a₁ x (ix3 b t l)
      = outElt (x (ix3 b t l)) (a₀ (ix4 (0 : Fin 1) (0 : Fin 1) b t)) (a₁ (ix4 (0 : Fin 1) (0 : Fin 1) b t)) (u (ix2 b l)) (w (ix2 b l)) := by
  pointwise [k0_pay19, k0_pay18, outElt]

theorem pay21_apply (u w : FVec Ideal S4x256 .f32) (a₀ a₁ : Vec Ideal S1x1x4x512 .bf16) (x : Vec Ideal S4x512x256 .bf16)
    (b : Fin 4) (t : Fin 512) (l : Fin 256) :
    k0_pay1 (F := Ideal) u w (k0_pay21 a₀ a₁ x) (ix3 b t l)
      = outElt (x (ix3 b t l)) (a₀ (ix4 (0 : Fin 1) (0 : Fin 1) b t)) (a₁ (ix4 (0 : Fin 1) (0 : Fin 1) b t)) (u (ix2 b l)) (w (ix2 b l)) := by
  pointwise [k0_pay1, k0_pay21, outElt]

end Cert.KernelProof
-- ==== Proof.Sums.lean ====
/-
The sums of the exchange over exact values.

After the three stages every device holds the sum of the 32 devices' rows: the partners of a device, followed through
the stages, name each device once. A device's row is the sum over its 256 channels, so the total is the sum over the
8192 channels of the whole array.
-/
module

public import proofs.«01_k».proof.Proof.Element
public import Idealize.ShloMosaic.Lib.Layout

@[expose] public section

noncomputable section

namespace Cert.KernelProof

open Cert.KernelIdeal Cert.KernelIdeal.Gen

open Idealize.ShloMosaic
open scoped BigOperators

/-- Where device `c` receives from over the stages: member `j` of its group in stage 0, `k` in stage 1, `l` in stage 2. -/
def source (c : Dev nD) (p : Fin 2 × Fin 4 × Fin 4) : Dev nD :=
  let c₂ := ![c, peer c 6] p.1
  let c₁ := ![c₂, peer c₂ 3, peer c₂ 4, peer c₂ 5] p.2.1
  ![c₁, peer c₁ 0, peer c₁ 1, peer c₁ 2] p.2.2

set_option maxRecDepth 8192 in
theorem source_injective : ∀ c : Dev nD, Function.Injective (source c) := by
  unfold Function.Injective
  decide +kernel

theorem source_bijective (c : Dev nD) : Function.Bijective (source c) :=
  (Fintype.bijective_iff_injective_and_card _).2 ⟨source_injective c, by simp [nD]⟩

/-- The three stages' additions. -/
def group0 (g : Dev nD → EReal) (c : Dev nD) : EReal := g c + g (peer c 0) + g (peer c 1) + g (peer c 2)
def group1 (g : Dev nD → EReal) (c : Dev nD) : EReal := g c + g (peer c 3) + g (peer c 4) + g (peer c 5)
def group2 (g : Dev nD → EReal) (c : Dev nD) : EReal := g c + g (peer c 6)

/-- Together they add every device's value once. -/
theorem stages_sum (g : Dev nD → EReal) (c : Dev nD) : group2 (group1 (group0 g)) c = ∑ d : Dev nD, g d := by
  rw [← (source_bijective c).sum_comp g, Fintype.sum_prod_type]
  simp only [Fintype.sum_prod_type, Fin.sum_univ_two, Fin.sum_univ_four]
  rfl

variable (m : (ℓ : Loc nD τ sig) → Buf (Elt Ideal) ℓ)

theorem T3_apply (q : Fin 2) (c : Dev nD) (i : S2x4x512.Idx) : T3 m q c i = ∑ d : Dev nD, T0 m q d i :=
  (show T3 m q c i = group2 (group1 (group0 fun d => T0 m q d i)) c from rfl).trans (stages_sum _ c)

/-- Channel `k` of device `c` in the whole array. -/
def chan (c : Fin 32) (k : Fin 256) : Fin 8192 := ⟨c.val * 256 + k.val, by omega⟩

/-- The sums over the devices' channels are the sum over all channels. -/
theorem sum_channels (g : Fin 8192 → EReal) : ∑ c : Fin 32, ∑ k : Fin 256, g (chan c k) = ∑ K : Fin 8192, g K := by
  rw [← Fintype.sum_prod_type' fun c k => g (chan c k)]
  refine Fintype.sum_equiv (finProdFinEquiv (m := 32) (n := 256)) _ _ fun p => congrArg g (Fin.ext ?_)
  show p.1.val * 256 + p.2.val = p.2.val + 256 * p.1.val
  ring

/-- The two rows that a device holds in the end, at position `(b, t)` of chunk `q`. -/
theorem row0_apply (q : Fin 2) (c : Dev nD) (b : Fin 4) (t : Fin 512) :
    rowOf 0 (T3 m q c) (ix4 (0 : Fin 1) (0 : Fin 1) b t) = ∑ d : Dev nD, ∑ k : Fin 256, xch m q d (ix3 b t k) := by
  show T3 m q c (ix3 (0 : Fin 2) b t) = _
  rw [T3_apply]
  exact Finset.sum_congr rfl fun d _ => pay3_apply (xch m q d) b t
theorem row1_apply (q : Fin 2) (c : Dev nD) (b : Fin 4) (t : Fin 512) :
    rowOf 1 (T3 m q c) (ix4 (0 : Fin 1) (0 : Fin 1) b t) = ∑ d : Dev nD, ∑ k : Fin 256, xch m q d (ix3 b t k) * xch m q d (ix3 b t k) := by
  show T3 m q c (ix3 (1 : Fin 2) b t) = _
  rw [T3_apply]
  exact Finset.sum_congr rfl fun d _ => pay4_apply (xch m q d) b t

end Cert.KernelProof
-- ==== Proof.Reals.lean ====
/-
The normalisation over the reals: the mean of the squares less the square of the mean is the mean of the squared
deviations, and dividing by a root is multiplying by the reciprocal root.
-/
module

public import Idealize.ShloMosaic.PureOps.Ideal

@[expose] public section

noncomputable section

namespace Cert.Normalise

open Idealize.ShloMosaic
open scoped BigOperators

/-- The coercion of a finite sum. -/
theorem coe_sum {ι : Type} (s : Finset ι) (r : ι → ℝ) : ((∑ k ∈ s, r k : ℝ) : EReal) = ∑ k ∈ s, (r k : EReal) := by
  classical
  induction s using Finset.induction_on with
  | empty => simp
  | insert a s ha ih => rw [Finset.sum_insert ha, Finset.sum_insert ha, EReal.coe_add, ih]

/-- Division of a real by a real other than zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The two forms of the variance. -/
theorem variance_eq {ι : Type} (s : Finset ι) (r : ι → ℝ) (n : ℝ) (hn : n ≠ 0) (hs : (s.card : ℝ) = n) :
    (∑ k ∈ s, (r k - (∑ j ∈ s, r j) / n) * (r k - (∑ j ∈ s, r j) / n)) / n
      = (∑ k ∈ s, r k * r k) / n - (∑ j ∈ s, r j) / n * ((∑ j ∈ s, r j) / n) := by
  set μ := (∑ j ∈ s, r j) / n with hμ
  have hS : ∑ j ∈ s, r j = μ * n := by rw [hμ]; field_simp
  have h : ∑ k ∈ s, (r k - μ) * (r k - μ) = ∑ k ∈ s, r k * r k - 2 * μ * ∑ k ∈ s, r k + s.card * (μ * μ) := by
    rw [Finset.mul_sum, ← Finset.sum_sub_distrib, ← nsmul_eq_mul, ← Finset.sum_const, ← Finset.sum_add_distrib]
    exact Finset.sum_congr rfl fun k _ => by ring
  rw [h, hs, hS]
  field_simp
  ring

/-- Over real entries `v k` of a row of `n` and `e > 0`: a deviation times the reciprocal root of the variance taken
from the sum of the squares is the deviation divided by the root of the variance taken from the deviations. -/
theorem normalise_eq {ι : Type} (s : Finset ι) (v : ι → EReal) (hv : ∀ k, ∃ r : ℝ, v k = r) (n e : ℝ) (hn : 0 < n) (he : 0 < e)
    (hs : (s.card : ℝ) = n) (i : ι) :
    (v i - Ideal.div (∑ k ∈ s, v k) n)
        * Ideal.rsqrt (Ideal.div (∑ k ∈ s, v k * v k) n - Ideal.div (∑ k ∈ s, v k) n * Ideal.div (∑ k ∈ s, v k) n + e)
      = Ideal.div (v i - Ideal.div (∑ k ∈ s, v k) n)
          (Ideal.sqrt (Ideal.div (∑ k ∈ s, (v k - Ideal.div (∑ j ∈ s, v j) n) * (v k - Ideal.div (∑ j ∈ s, v j) n)) n + e)) := by
  choose r hr using hv
  obtain rfl : v = fun k => (r k : EReal) := funext hr
  have hn' := hn.ne'
  have hV := variance_eq s r n hn' hs
  have h0 : 0 ≤ (∑ k ∈ s, (r k - (∑ j ∈ s, r j) / n) * (r k - (∑ j ∈ s, r j) / n)) / n :=
    div_nonneg (Finset.sum_nonneg fun k _ => mul_self_nonneg _) hn.le
  simp only [← EReal.coe_mul, ← coe_sum, div_coe _ _ hn', ← EReal.coe_sub, ← EReal.coe_add]
  rw [← hV]
  set V := (∑ k ∈ s, (r k - (∑ j ∈ s, r j) / n) * (r k - (∑ j ∈ s, r j) / n)) / n with hVdef
  have hp : 0 < V + e := by linarith
  have hr' : Ideal.rsqrt ((V + e : ℝ) : EReal) = (((Real.sqrt (V + e))⁻¹ : ℝ) : EReal) := by
    show (if V + e < 0 then ⊥ else if V + e = 0 then ⊤ else (((Real.sqrt (V + e))⁻¹ : ℝ) : EReal)) = _
    rw [if_neg hp.not_gt, if_neg hp.ne']
  have hq' : Ideal.sqrt ((V + e : ℝ) : EReal) = ((Real.sqrt (V + e) : ℝ) : EReal) := by
    show (if V + e < 0 then ⊥ else ((Real.sqrt (V + e) : ℝ) : EReal)) = _
    rw [if_neg hp.not_gt]
  rw [hr', hq', div_coe _ _ (Real.sqrt_pos.2 hp).ne', ← EReal.coe_mul, ← div_eq_mul_inv]

end Cert.Normalise
-- ==== Proof.Reference.lean ====
/-
The reference's result over exact values, read at one element.
-/
module

public import proofs.«01_k».proof.Proof.Gen.ReferenceIdeal.Run
public import Idealize.ShloMosaic.Lib.Pointwise

@[expose] public section

noncomputable section

namespace Cert.ReferenceProof

open Cert.ReferenceIdeal Cert.ReferenceIdeal.Gen

open Idealize.ShloMosaic Idealize.ShloMosaic.TcCoe
open Idealize.ShloMosaic.Pointwise
open scoped BigOperators

/-- A deviation over the root of the mean of the squared deviations: position `L` of a row `v`. -/
def normalised (v : Fin 8192 → EReal) (L : Fin 8192) : EReal :=
  Ideal.div (v L - Ideal.div (∑ K, v K) (Ideal.ofBits .f32 0x46000000#32))
    (Ideal.sqrt (Ideal.div (∑ K, (v K - Ideal.div (∑ J, v J) (Ideal.ofBits .f32 0x46000000#32)) * (v K - Ideal.div (∑ J, v J) (Ideal.ofBits .f32 0x46000000#32)))
      (Ideal.ofBits .f32 0x46000000#32) + Ideal.ofBits .f32 0x3727C5AC#32))

/-- The rows' means. -/
def means (x : FVec Ideal S4x1024x8192 .bf16) : FVec Ideal S4x1024x1 .f32 :=
  Host.divf (broadcastInDim S4x1024x1 ![0, 1] bcast_S4x1024_S4x1024x1_0_1 (Host.reduceAdd (extf .f32 x bitsLt_bf16_f32) (constant S_ .f32 0x00000000#32) reducesTo_S4x1024x8192_S4x1024_d2 h_S_))
    (broadcastInDim S4x1024x1 ![] bcast_S_S4x1024x1 (constant S_ .f32 0x46000000#32))

/-- The deviations from them. -/
def deviations (x : FVec Ideal S4x1024x8192 .bf16) : FVec Ideal S4x1024x8192 .f32 :=
  subf (extf .f32 x bitsLt_bf16_f32) (broadcastInDim S4x1024x8192 ![0, 1, 2] bcast_S4x1024x1_S4x1024x8192_0_1_2 (means x))

/-- The number of channels, as the variance spells it. -/
def count : FVec Ideal S_ .f32 := subf (constant S_ .f32 0x46000000#32) (sitofp .f32 (constantI S_ 32 0#32))

/-- The rows' variances. -/
def variances (x : FVec Ideal S4x1024x8192 .bf16) : FVec Ideal S4x1024x1 .f32 :=
  select (broadcastInDim S4x1024x1 ![] bcast_S_S4x1024x1 (cmpf .ogt count (constant S_ .f32 0x00000000#32)))
    (Host.divf (broadcastInDim S4x1024x1 ![0, 1] bcast_S4x1024_S4x1024x1_0_1 (Host.reduceAdd (mulf (deviations x) (deviations x)) (constant S_ .f32 0x00000000#32) reducesTo_S4x1024x8192_S4x1024_d2 h_S_))
      (broadcastInDim S4x1024x1 ![] bcast_S_S4x1024x1 count))
    (broadcastInDim S4x1024x1 ![] bcast_S_S4x1024x1 (id (constant S_ .f32 0x7FC00000#32)))

/-- A projection of the embedding. -/
def projection (t : FVec Ideal S4x128 .bf16) (w : FVec Ideal S128x8192 .bf16) : FVec Ideal S4x1x8192 .f32 :=
  broadcastInDim S4x1x8192 ![0, 2] bcast_S4x8192_S4x1x8192_0_2
    (Host.dotGeneral dot_S4x128_S128x8192_S4x8192_1_0_0_1_n_n none (extf .f32 t bitsLt_bf16_f32) (extf .f32 w bitsLt_bf16_f32))

/-- The reference's result. -/
def result (x : FVec Ideal S4x1024x8192 .bf16) (t : FVec Ideal S4x128 .bf16) (u w : FVec Ideal S128x8192 .bf16) : FVec Ideal S4x1024x8192 .f32 :=
  addf (mulf (Host.divf (deviations x)
        (broadcastInDim S4x1024x8192 ![0, 1, 2] bcast_S4x1024x1_S4x1024x8192_0_1_2
          (Host.sqrt (addf (variances x) (broadcastInDim S4x1024x1 ![] bcast_S_S4x1024x1 (constant S_ .f32 0x3727C5AC#32))))))
      (broadcastInDim S4x1024x8192 ![0, 1, 2] bcast_S4x1x8192_S4x1024x8192_0_1_2
        (addf (broadcastInDim S4x1x8192 ![] bcast_S_S4x1x8192 (constant S_ .f32 0x3F800000#32)) (projection t u))))
    (broadcastInDim S4x1024x8192 ![0, 1, 2] bcast_S4x1x8192_S4x1024x8192_0_1_2 (projection t w))

theorem means_apply (x : FVec Ideal S4x1024x8192 .bf16) (b : Fin 4) (t : Fin 1024) :
    means x (ix3 b t (0 : Fin 1)) = Ideal.div (∑ K : Fin 8192, x (ix3 b t K)) (Ideal.ofBits .f32 0x46000000#32) := by
  pointwise [means]

theorem deviations_apply (x : FVec Ideal S4x1024x8192 .bf16) (b : Fin 4) (t : Fin 1024) (K : Fin 8192) :
    deviations x (ix3 b t K) = x (ix3 b t K) - Ideal.div (∑ J : Fin 8192, x (ix3 b t J)) (Ideal.ofBits .f32 0x46000000#32) := by
  pointwise [deviations, means]

/-- The constants: the number of channels, and the positive number added to the variance. -/
theorem width_eq : Ideal.ofBits .f32 0x46000000#32 = ((8192 : ℝ) : EReal) := by
  simp only [Ideal.ofBits, Ideal.ieee]
  simp
  rw [← EReal.coe_mul]
  norm_num

theorem epsilon_eq : ∃ e : ℝ, 0 < e ∧ Ideal.ofBits .f32 0x3727C5AC#32 = (e : EReal) := by
  refine ⟨10995116 * (2 ^ 40)⁻¹, by norm_num, ?_⟩
  simp [Ideal.ofBits, Ideal.ieee]

theorem count_apply (i : S_.Idx) : count i = Ideal.ofBits .f32 0x46000000#32 := by
  show Ideal.ofBits .f32 0x46000000#32 - ((((0#32 : BitVec 32).toInt : ℤ) : ℝ) : EReal) = _
  simp

theorem variances_apply (x : FVec Ideal S4x1024x8192 .bf16) (b : Fin 4) (t : Fin 1024) :
    variances x (ix3 b t (0 : Fin 1))
      = Ideal.div (∑ K : Fin 8192, deviations x (ix3 b t K) * deviations x (ix3 b t K)) (Ideal.ofBits .f32 0x46000000#32) := by
  pointwise [variances]
  rw [count_apply, if_pos]
  rw [width_eq]
  exact_mod_cast (by norm_num : (0 : ℝ) < 8192)

theorem projection_apply (t : FVec Ideal S4x128 .bf16) (w : FVec Ideal S128x8192 .bf16) (b : Fin 4) (L : Fin 8192) :
    projection t w (ix3 b (0 : Fin 1) L) = ∑ k : Fin 128, t (ix2 b k) * w (ix2 k L) := by
  pointwise [projection]

theorem result_apply (x : FVec Ideal S4x1024x8192 .bf16) (t : FVec Ideal S4x128 .bf16) (u w : FVec Ideal S128x8192 .bf16)
    (b : Fin 4) (s : Fin 1024) (L : Fin 8192) :
    result x t u w (ix3 b s L)
      = normalised (fun K => x (ix3 b s K)) L * (Ideal.ofBits .f32 0x3F800000#32 + ∑ k : Fin 128, t (ix2 b k) * u (ix2 k L))
        + ∑ k : Fin 128, t (ix2 b k) * w (ix2 k L) := by
  pointwise [result, normalised, deviations_apply, variances_apply, projection_apply]

end Cert.ReferenceProof
-- ==== Proof.Value.lean ====
/-
The kernel's result is its device's block of the reference's.

An element of the result is written in terms of the whole arrays of which the devices hold blocks; where `x` is finite,
the two ways of normalising agree.
-/
module

public import proofs.«01_k».proof.Pre_finite_x_KernelIdeal
public import proofs.«01_k».proof.Proof.Sums
public import proofs.«01_k».proof.Proof.Reals
public import proofs.«01_k».proof.Proof.Reference
public import proofs.«01_k».proof.Proof.Launch
public import Idealize.ShloMosaic.Lib.Pipeline.ValueKit

@[expose] public section

noncomputable section

namespace Cert.KernelProof

open Cert.KernelIdeal Cert.KernelIdeal.Gen

open Idealize.ShloMosaic
open Idealize.ShloMosaic.TcCoe
open scoped BigOperators

variable {φ : FTy}
variable (m : (ℓ : Loc nD τ sig) → Buf (Elt Ideal) ℓ)

/-! ## The staged blocks are the argument arrays -/

theorem xstg_eq (c : Dev nD) : xstg m c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _
theorem tstg_eq (c : Dev nD) : tstg m c = m ((c : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _
theorem ustg_eq (c : Dev nD) : ustg m c = m ((c : Thread nD τ).loc main_arg2) := by
  have hz : (fun a => (win0_2.index (0 : Fin 1)) a * main_arg2.ty.shape.size a) = fun _ => 0 := funext fun a => by fin_cases a <;> decide
  exact Memref.read_access_unit_zero (Elt Ideal) main_arg2 hz (fun a => by fin_cases a <;> decide) _
theorem wstg_eq (c : Dev nD) : wstg m c = m ((c : Thread nD τ).loc main_arg3) := by
  have hz : (fun a => (win0_3.index (0 : Fin 1)) a * main_arg3.ty.shape.size a) = fun _ => 0 := funext fun a => by fin_cases a <;> decide
  exact Memref.read_access_unit_zero (Elt Ideal) main_arg3 hz (fun a => by fin_cases a <;> decide) _

/-! ## One element of the result -/

/-- Position `t` of chunk `q` among the 1024 positions. -/
def pos (q : Fin 2) (t : Fin 512) : Fin 1024 := ⟨512 * q.val + t.val, by omega⟩

theorem emb_pos (q : Fin 2) (b : Fin 4) (t : Fin 512) (l : Fin 256) : (xR q).emb (ix3 b t l) = ix3 b (pos q t) l := by
  funext a
  refine Fin.ext ?_
  fin_cases a <;> simp [Rect.emb_apply, Rect.off_unit, Rect.stride_unit, ix3, pos]

theorem xch_apply (q : Fin 2) (c : Dev nD) (b : Fin 4) (t : Fin 512) (l : Fin 256) :
    xch m q c (ix3 b t l) = m ((c : Thread nD τ).loc main_arg0) (ix3 b (pos q t) l) := by
  unfold xch
  rw [xstg_eq, View.readAt_rect]
  exact congrArg (m ((c : Thread nD τ).loc main_arg0)) (emb_pos q b t l)

/-- Every position of the result is one of a chunk's. -/
theorem out_pos (i : S4x1024x256.Idx) : ∃ (q : Fin 2) (b : Fin 4) (t : Fin 512) (l : Fin 256), i = ix3 b (pos q t) l := by
  obtain ⟨q, x, hx⟩ := out_cover i
  have hi : x = ix3 (x 0 : Fin 4) (x 1 : Fin 512) (x 2 : Fin 256) := by
    funext a
    fin_cases a <;> rfl
  refine ⟨q, (x 0 : Fin 4), (x 1 : Fin 512), (x 2 : Fin 256), ?_⟩
  exact hx.trans ((congrArg (xR q).emb hi).trans (emb_pos q _ _ _))

/-- The result at a position: the element, the row's sums over all devices, and its column's scale and shift. -/
theorem outAt_apply (q : Fin 2) (c : Dev nD) (b : Fin 4) (t : Fin 512) (l : Fin 256) :
    outAt m c (ix3 b (pos q t) l)
      = outElt (xch m q c (ix3 b t l)) (∑ d : Dev nD, ∑ k : Fin 256, xch m q d (ix3 b t k))
          (∑ d : Dev nD, ∑ k : Fin 256, xch m q d (ix3 b t k) * xch m q d (ix3 b t k)) (mul m c (ix2 b l)) (add m c (ix2 b l)) := by
  have hq : ∀ q : Fin 2, q = 0 ∨ q = 1 := by decide
  rw [← emb_pos, ← row0_apply m q c, ← row1_apply m q c]
  unfold outAt outBuf
  obtain rfl | rfl := hq q
  · refine (outBuf_zero (out0 m c) (out1 m c) _ (ix3 b t l)).trans ?_
    exact pay19_apply (mul m c) (add m c) _ _ _ b t l
  · refine (outBuf_one (out0 m c) (out1 m c) _ (ix3 b t l)).trans ?_
    exact pay21_apply (mul m c) (add m c) _ _ _ b t l

/-! ## The whole arrays -/

/-- The arrays of which the devices hold blocks. -/
structure Whole : Type where
  x : FVec Ideal Cert.ReferenceIdeal.S4x1024x8192 .bf16
  t : FVec Ideal Cert.ReferenceIdeal.S4x128 .bf16
  u : FVec Ideal Cert.ReferenceIdeal.S128x8192 .bf16
  w : FVec Ideal Cert.ReferenceIdeal.S128x8192 .bf16

/-- The devices' arguments are the blocks of `A`. -/
def Holds (A : Whole) : Prop := ∀ c : Dev nD,
  m ((c : Thread nD τ).loc main_arg0) = Layout.block ⟨3, ![4, 1024, 256]⟩ ⟨3, ![4, 1024, 8192]⟩ 2 32 c A.x
  ∧ m ((c : Thread nD τ).loc main_arg1) = A.t
  ∧ m ((c : Thread nD τ).loc main_arg2) = Layout.block ⟨2, ![128, 256]⟩ ⟨2, ![128, 8192]⟩ 1 32 c A.u
  ∧ m ((c : Thread nD τ).loc main_arg3) = Layout.block ⟨2, ![128, 256]⟩ ⟨2, ![128, 8192]⟩ 1 32 c A.w

/-- An element of a block in the whole array. -/
theorem block3_apply (v : FVec Ideal Cert.ReferenceIdeal.S4x1024x8192 φ) (c : Fin 32) (b : Fin 4) (s : Fin 1024) (l : Fin 256) :
    Layout.block ⟨3, ![4, 1024, 256]⟩ ⟨3, ![4, 1024, 8192]⟩ 2 32 c v (by decide) (ix3 b s l) = v (ix3 b s (chan c l)) := by
  rw [Layout.block_apply]
  congr 1
  funext a
  fin_cases a <;> rfl
theorem block2_apply (v : FVec Ideal Cert.ReferenceIdeal.S128x8192 φ) (c : Fin 32) (k : Fin 128) (l : Fin 256) :
    Layout.block ⟨2, ![128, 256]⟩ ⟨2, ![128, 8192]⟩ 1 32 c v (by decide) (ix2 k l) = v (ix2 k (chan c l)) := by
  rw [Layout.block_apply]
  congr 1
  funext a
  fin_cases a <;> rfl

variable {m} {A : Whole}

theorem xch_whole (h : Holds m A) (q : Fin 2) (c : Dev nD) (b : Fin 4) (t : Fin 512) (l : Fin 256) :
    xch m q c (ix3 b t l) = A.x (ix3 b (pos q t) (chan c l)) := by
  rw [xch_apply, (h c).1]
  exact block3_apply A.x c b (pos q t) l

/-- The columns of the device's two projections. -/
theorem mul_whole (h : Holds m A) (c : Dev nD) (b : Fin 4) (l : Fin 256) :
    mul m c (ix2 b l) = ∑ k : Fin 128, A.t (ix2 b k) * A.u (ix2 k (chan c l)) := by
  unfold mul
  rw [tstg_eq, ustg_eq, (h c).2.1, (h c).2.2.1]
  refine (pay8_apply _ _ b l).trans (Finset.sum_congr rfl fun k _ => ?_)
  rw [block2_apply]
theorem add_whole (h : Holds m A) (c : Dev nD) (b : Fin 4) (l : Fin 256) :
    add m c (ix2 b l) = ∑ k : Fin 128, A.t (ix2 b k) * A.w (ix2 k (chan c l)) := by
  unfold add
  rw [tstg_eq, wstg_eq, (h c).2.1, (h c).2.2.2]
  refine (pay9_apply _ _ b l).trans (Finset.sum_congr rfl fun k _ => ?_)
  rw [block2_apply]

/-- Where `x` is finite the kernel's block is the reference's. -/
theorem outAt_block (h : Holds m A) (hx : ∀ i, ∃ r : ℝ, A.x i = (r : EReal)) (c : Dev nD) :
    outAt m c = Layout.block ⟨3, ![4, 1024, 256]⟩ ⟨3, ![4, 1024, 8192]⟩ 2 32 c (Cert.ReferenceProof.result A.x A.t A.u A.w) := by
  funext i
  obtain ⟨q, b, t, l, rfl⟩ := out_pos i
  refine Eq.trans ?_ (block3_apply (Cert.ReferenceProof.result A.x A.t A.u A.w) c b (pos q t) l).symm
  rw [outAt_apply, Cert.ReferenceProof.result_apply, mul_whole h, add_whole h]
  simp only [xch_whole h]
  rw [sum_channels fun K => A.x (ix3 b (pos q t) K), sum_channels fun K => A.x (ix3 b (pos q t) K) * A.x (ix3 b (pos q t) K)]
  obtain ⟨e, he, hE⟩ := Cert.ReferenceProof.epsilon_eq
  unfold outElt Cert.ReferenceProof.normalised
  rw [Cert.ReferenceProof.width_eq, hE]
  rw [Cert.Normalise.normalise_eq Finset.univ (fun K => A.x (ix3 b (pos q t) K)) (fun K => hx _) 8192 e (by norm_num) he (by simp) (chan c l)]

/-! ## The precondition -/

instance : Cert.Pre_finite_x_KernelIdeal.Facts := ⟨by decide⟩

/-- A number whose absolute value is below infinity is real. -/
theorem real_of_abs_lt (v : EReal) (h : max v (-v) < ⊤) : ∃ r : ℝ, v = (r : EReal) := by
  induction v with
  | bot => simp at h
  | coe r => exact ⟨r, rfl⟩
  | top => simp at h

theorem infinity_eq : Ideal.ofBits .bf16 0x7F80#16 = ⊤ := by
  simp [Ideal.ofBits, Ideal.ieee]

/-- Where the precondition holds of a device's block, its elements are real. -/
theorem finite_block (x : FVec Ideal S4x1024x256 .bf16) (t : FVec Ideal S4x128 .bf16) (u w : FVec Ideal S128x256 .bf16)
    (hp : Cert.Pre_finite_x_KernelIdeal.fn (F := Ideal) x t u w = fun _ => 1#1) (i : S4x1024x256.Idx) : ∃ r : ℝ, x i = (r : EReal) := by
  have h : BitVec.ofBool (decide (max (x i) (-(x i)) < Ideal.ofBits .bf16 0x7F80#16)) = 1#1 := congrFun hp i
  rw [infinity_eq] at h
  refine real_of_abs_lt (x i) ?_
  by_contra hn
  rw [decide_eq_false hn] at h
  exact absurd h (by decide)

/-- Where it holds of every device's block, the whole `x` is real. -/
theorem finite_whole (h : Holds m A)
    (hp : ∀ c : Dev nD, Cert.Pre_finite_x_KernelIdeal.fn (F := Ideal) (m ((c : Thread nD τ).loc main_arg0)) (m ((c : Thread nD τ).loc main_arg1))
      (m ((c : Thread nD τ).loc main_arg2)) (m ((c : Thread nD τ).loc main_arg3)) = fun _ => 1#1)
    (i : Cert.ReferenceIdeal.S4x1024x8192.Idx) : ∃ r : ℝ, A.x i = (r : EReal) := by
  have hK : (i 2).val < 8192 := (i 2).isLt
  let c : Fin 32 := ⟨(i 2).val / 256, by omega⟩
  let l : Fin 256 := ⟨(i 2).val % 256, by omega⟩
  have hi : i = ix3 (i 0 : Fin 4) (i 1 : Fin 1024) (chan c l) := by
    funext a
    refine Fin.ext ?_
    fin_cases a
    · rfl
    · rfl
    · exact (Nat.div_add_mod' (i 2).val 256).symm
  obtain ⟨r, hr⟩ := finite_block _ _ _ _ (hp c) (ix3 (i 0 : Fin 4) (i 1 : Fin 1024) l)
  refine ⟨r, ?_⟩
  rw [(h c).1] at hr
  exact (congrArg A.x hi).trans ((block3_apply A.x c _ _ l).symm.trans hr)

end Cert.KernelProof
-- ==== Proof.Algebraic.lean ====
/-
The value claim: both programs run, and each device's result is its block of the reference's.
-/
module

public import proofs.«01_k».proof.Defs
public import proofs.«01_k».proof.Proof.Frames
public import proofs.«01_k».proof.Proof.Value

@[expose] public section

noncomputable section

namespace Cert.KernelProof

open Idealize.ShloMosaic
open Idealize.ShloMosaic.TcCoe
open Idealize.SL.Sem

/-- The arrays that the reference's arguments hold. -/
def wholeOf (m' : (ℓ : Loc Cert.ReferenceIdeal.nD Cert.ReferenceIdeal.τ Cert.ReferenceIdeal.sig) → Buf (Elt Ideal) ℓ) : Whole where
  x := m' (((0 : Dev Cert.ReferenceIdeal.nD).tc : Thread Cert.ReferenceIdeal.nD Cert.ReferenceIdeal.τ).loc Cert.ReferenceIdeal.main_arg0)
  t := m' (((0 : Dev Cert.ReferenceIdeal.nD).tc : Thread Cert.ReferenceIdeal.nD Cert.ReferenceIdeal.τ).loc Cert.ReferenceIdeal.main_arg1)
  u := m' (((0 : Dev Cert.ReferenceIdeal.nD).tc : Thread Cert.ReferenceIdeal.nD Cert.ReferenceIdeal.τ).loc Cert.ReferenceIdeal.main_arg2)
  w := m' (((0 : Dev Cert.ReferenceIdeal.nD).tc : Thread Cert.ReferenceIdeal.nD Cert.ReferenceIdeal.τ).loc Cert.ReferenceIdeal.main_arg3)

/-- The kernel computes the reference's result, in blocks. -/
theorem algebraic : Cert.algebraic_KernelIdeal_ReferenceIdeal_pre_finite_x_KernelIdeal := by
  intro m ρ m' ρ' hp hagree
  have h : Holds m (wholeOf m') := hagree
  refine ⟨Cert.ReferenceProof.result (wholeOf m').x (wholeOf m').t (wholeOf m').u (wholeOf m').w, ?_, ?_⟩
  · exact (θ_run Cert.KernelIdeal.defs _ _).mono
      (fun _ hr c => ⟨(result_eq m ρ hr.1 c).trans (outAt_block h (finite_whole h hp) c), args_unchanged m ρ hr.1 c⟩)
      (run_main (F := Ideal) m ρ)
  · exact (θ_run Cert.ReferenceIdeal.defs _ _).mono (fun _ hr => hr 0) (Cert.ReferenceIdeal.Value.run (F := Ideal) m' ρ')

instance : Cert.Pre_finite_x_ReferenceIdeal.Facts := ⟨by decide⟩

/-- The frames of the two programs, under the precondition as well. -/
theorem frame_kernelIdeal_finite : Cert.quiescent_KernelIdeal_pre_finite_x_KernelIdeal := fun m ρ _ => frame_kernelIdeal m ρ trivial
theorem frame_referenceIdeal_finite : Cert.quiescent_ReferenceIdeal_pre_finite_x_ReferenceIdeal := fun m ρ _ => frame_referenceIdeal m ρ trivial

end Cert.KernelProof
-- ==== Proof.lean ====
/-
The certificate: the claims put together from the modules below.
-/
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, inferInstance, inferInstance,
  Cert.KernelProof.frame_kernel, Cert.KernelProof.frame_kernelIdeal, Cert.KernelProof.frame_kernelIdeal_finite,
  Cert.KernelProof.frame_referenceIdeal, Cert.KernelProof.frame_referenceIdeal_finite, trivial, Cert.KernelProof.algebraic⟩

end Cert.Proof

end
